-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_in_range [hPre_in_range : Cert.Pre_in_range.Facts] (m : (ℓ : Loc Cert.BwdIdeal.nD Cert.BwdIdeal.τ Cert.BwdIdeal.sig) → Buf (Elt Ideal) ℓ) : Prop :=
  ∀ c : Dev Cert.BwdIdeal.nD,
    (Cert.Pre_in_range.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))) = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_in_range [hPre_in_range : Cert.Pre_in_range.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_in_range.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))) = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ r.2.sem = fun _ => 0)

def quiescent_BwdIdeal_pre_in_range [hBwdIdeal : Cert.BwdIdeal.Facts] [hPre_in_range : Cert.Pre_in_range.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_in_range m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6))
      ∧ r.2.sem = fun _ => 0)

def quiescent_BwdRefIdeal_pre_in_range [hBwdRefIdeal : Cert.BwdRefIdeal.Facts] [hPre_in_range : Cert.Pre_in_range.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_in_range m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def preserves_Norm_NormIdeal : Prop :=
  True

def preserves_Fwd_FwdIdeal : Prop :=
  IdealRules.named_const.Statement Cert.FwdIdeal.κ "log2e" .f32 0x3FB8AA3B#32 (((Real.log 2)⁻¹ : ℝ) : EReal)

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v0_0) = v0 c
          ∧ r.2.mem ((c.tc : Thread Cert.FwdRefIdeal.nD Cert.FwdRefIdeal.τ).loc Cert.FwdRefIdeal.main_v0_1) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Bwd_BwdIdeal : Prop :=
  IdealRules.named_const.Statement Cert.BwdIdeal.κ "ln2" .f32 0x3F317218#32 ((Real.log 2 : ℝ) : EReal)

def algebraic_BwdIdeal_BwdRefIdeal_pre_in_range [hBwdIdeal : Cert.BwdIdeal.Facts] [hBwdRefIdeal : Cert.BwdRefIdeal.Facts] [hPre_in_range : Cert.Pre_in_range.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_in_range m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)) →
    ∃ (v0 : (c : Dev Cert.BwdIdeal.nD) → Buf (Elt Ideal) ((c.tc : Thread Cert.BwdIdeal.nD Cert.BwdIdeal.τ).loc Cert.BwdIdeal.main_v0_0)) (v1 : (c : Dev Cert.BwdIdeal.nD) → Buf (Elt Ideal) ((c.tc : Thread Cert.BwdIdeal.nD Cert.BwdIdeal.τ).loc Cert.BwdIdeal.main_v0_1)) (v2 : (c : Dev Cert.BwdIdeal.nD) → Buf (Elt Ideal) ((c.tc : Thread Cert.BwdIdeal.nD Cert.BwdIdeal.τ).loc Cert.BwdIdeal.main_v0_2)) (v3 : (c : Dev Cert.BwdIdeal.nD) → Buf (Elt Ideal) ((c.tc : Thread Cert.BwdIdeal.nD Cert.BwdIdeal.τ).loc Cert.BwdIdeal.main_v0_3)) (v4 : (c : Dev Cert.BwdIdeal.nD) → Buf (Elt Ideal) ((c.tc : Thread Cert.BwdIdeal.nD Cert.BwdIdeal.τ).loc Cert.BwdIdeal.main_v0_4)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v0_0) = v0 c
          ∧ r.2.mem ((c.tc : Thread Cert.BwdIdeal.nD Cert.BwdIdeal.τ).loc Cert.BwdIdeal.main_v0_1) = v1 c
          ∧ r.2.mem ((c.tc : Thread Cert.BwdIdeal.nD Cert.BwdIdeal.τ).loc Cert.BwdIdeal.main_v0_2) = v2 c
          ∧ r.2.mem ((c.tc : Thread Cert.BwdIdeal.nD Cert.BwdIdeal.τ).loc Cert.BwdIdeal.main_v0_3) = v3 c
          ∧ r.2.mem ((c.tc : Thread Cert.BwdIdeal.nD Cert.BwdIdeal.τ).loc Cert.BwdIdeal.main_v0_4) = v4 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v0_0) = v0 c
          ∧ r.2.mem ((c.tc : Thread Cert.BwdRefIdeal.nD Cert.BwdRefIdeal.τ).loc Cert.BwdRefIdeal.main_v0_1) = v1 c
          ∧ r.2.mem ((c.tc : Thread Cert.BwdRefIdeal.nD Cert.BwdRefIdeal.τ).loc Cert.BwdRefIdeal.main_v0_2) = v2 c
          ∧ r.2.mem ((c.tc : Thread Cert.BwdRefIdeal.nD Cert.BwdRefIdeal.τ).loc Cert.BwdRefIdeal.main_v0_3) = v3 c
          ∧ r.2.mem ((c.tc : Thread Cert.BwdRefIdeal.nD Cert.BwdRefIdeal.τ).loc Cert.BwdRefIdeal.main_v0_4) = v4 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v24) = v0 c
          ∧ r.2.mem ((c.tc : Thread Cert.DxRefIdeal.nD Cert.DxRefIdeal.τ).loc Cert.DxRefIdeal.main_v27) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def Claim : Prop :=
  ∃ (hNorm : Cert.Norm.Facts) (hNormIdeal : Cert.NormIdeal.Facts) (hNormRefIdeal : Cert.NormRefIdeal.Facts) (hFwd : Cert.Fwd.Facts) (hFwdIdeal : Cert.FwdIdeal.Facts) (hFwdRefIdeal : Cert.FwdRefIdeal.Facts) (hBwd : Cert.Bwd.Facts) (hBwdIdeal : Cert.BwdIdeal.Facts) (hBwdRefIdeal : Cert.BwdRefIdeal.Facts) (hDx : Cert.Dx.Facts) (hDxIdeal : Cert.DxIdeal.Facts) (hDxRefIdeal : Cert.DxRefIdeal.Facts) (hPre_in_range : Cert.Pre_in_range.Facts),
    quiescent_Norm (hNorm := hNorm)
    ∧ quiescent_NormIdeal (hNormIdeal := hNormIdeal)
    ∧ quiescent_NormRefIdeal (hNormRefIdeal := hNormRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Bwd (hBwd := hBwd)
    ∧ quiescent_BwdIdeal (hBwdIdeal := hBwdIdeal)
    ∧ quiescent_BwdIdeal_pre_in_range (hBwdIdeal := hBwdIdeal) (hPre_in_range := hPre_in_range)
    ∧ quiescent_BwdRefIdeal (hBwdRefIdeal := hBwdRefIdeal)
    ∧ quiescent_BwdRefIdeal_pre_in_range (hBwdRefIdeal := hBwdRefIdeal) (hPre_in_range := hPre_in_range)
    ∧ quiescent_Dx (hDx := hDx)
    ∧ quiescent_DxIdeal (hDxIdeal := hDxIdeal)
    ∧ quiescent_DxRefIdeal (hDxRefIdeal := hDxRefIdeal)
    ∧ preserves_Norm_NormIdeal
    ∧ preserves_Fwd_FwdIdeal
    ∧ algebraic_FwdIdeal_FwdRefIdeal (hFwdIdeal := hFwdIdeal) (hFwdRefIdeal := hFwdRefIdeal)
    ∧ preserves_Bwd_BwdIdeal
    ∧ algebraic_BwdIdeal_BwdRefIdeal_pre_in_range (hBwdIdeal := hBwdIdeal) (hBwdRefIdeal := hBwdRefIdeal) (hPre_in_range := hPre_in_range)
    ∧ preserves_Dx_DxIdeal
    ∧ algebraic_DxIdeal_DxRefIdeal (hDxIdeal := hDxIdeal) (hDxRefIdeal := hDxRefIdeal)
-- ==== Pre_in_range.lean ====
abbrev S250 : Shape := ⟨1, ![250]⟩
abbrev S32000x1280 : Shape := ⟨2, ![32000, 1280]⟩
abbrev S32000x1024 : Shape := ⟨2, ![32000, 1024]⟩
abbrev S8x1024 : Shape := ⟨2, ![8, 1024]⟩
abbrev S1x1024 : Shape := ⟨2, ![1, 1024]⟩
abbrev S1024x1280 : Shape := ⟨2, ![1024, 1280]⟩

class Facts : Prop where
  slices_S8x1024_S1x1024_0_0 : S8x1024.Slices ![0, 0] S1x1024
  bcast_S1x1024_S32000x1024_0_1 : S1x1024.BroadcastsInDim S32000x1024 (![0, 1] : Fin 2 → Fin S32000x1024.rank)

variable [Facts]

def fn {F : FTy → Type} [FloatOps F] (main_arg0 : FVec F S250 .f32) (main_arg1 : FVec F S32000x1280 .fp8e4m3) (main_arg2 : FVec F S32000x1024 .f32) (main_arg3 : FVec F S8x1024 .f32) (main_arg4 : IVec S1x1024 32) (main_arg5 : IVec S1x1024 32) (main_arg6 : FVec F S1024x1280 .bf16) : IVec S32000x1024 1 :=
  let main_v0 : FVec F S1x1024 .f32 := (extractStridedSlice S1x1024 ![0, 0] · slices_S8x1024_S1x1024_0_0) main_arg3
  let main_v1 : FVec F S32000x1024 .f32 := broadcastInDim S32000x1024 ![0, 1] bcast_S1x1024_S32000x1024_0_1 main_v0
  let main_v2 : IVec S32000x1024 1 := cmpf .ole main_arg2 main_v1
  main_v2
-- ==== Norm.lean ====
abbrev S1024x1280 : Shape := ⟨2, ![1024, 1280]⟩
abbrev S1x1280 : Shape := ⟨2, ![1, 1280]⟩
abbrev S1280x1024 : Shape := ⟨2, ![1280, 1024]⟩
abbrev S8x1024 : Shape := ⟨2, ![8, 1024]⟩
abbrev S256x1280 : Shape := ⟨2, ![256, 1280]⟩
abbrev S1280x256 : Shape := ⟨2, ![1280, 256]⟩
abbrev S8x256 : Shape := ⟨2, ![8, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩

abbrev nBuf : Space → Nat
  | .hbm => 6
  | .vmem => 11
  | .smem => 0
  | _ => 0

abbrev bufTy : (tb : Table) → Fin (tcTables nBuf tb) → BufTy
  | .hbm, ⟨0, _⟩ => ⟨S1024x1280, .bf16⟩
  | .hbm, ⟨1, _⟩ => ⟨S1x1280, .f32⟩
  | .hbm, ⟨2, _⟩ => ⟨S1024x1280, .fp8e4m3⟩
  | .hbm, ⟨3, _⟩ => ⟨S1280x1024, .fp8e4m3⟩
  | .hbm, ⟨4, _⟩ => ⟨S1024x1280, .bf16⟩
  | .hbm, ⟨5, _⟩ => ⟨S8x1024, .f32⟩
  | .local _ .vmem, ⟨0, _⟩ => ⟨S256x1280, .bf16⟩
  | .local _ .vmem, ⟨1, _⟩ => ⟨S256x1280, .bf16⟩
  | .local _ .vmem, ⟨2, _⟩ => ⟨S1x1280, .f32⟩
  | .local _ .vmem, ⟨3, _⟩ => ⟨S256x1280, .fp8e4m3⟩
  | .local _ .vmem, ⟨4, _⟩ => ⟨S256x1280, .fp8e4m3⟩
  | .local _ .vmem, ⟨5, _⟩ => ⟨S1280x256, .fp8e4m3⟩
  | .local _ .vmem, ⟨6, _⟩ => ⟨S1280x256, .fp8e4m3⟩
  | .local _ .vmem, ⟨7, _⟩ => ⟨S256x1280, .bf16⟩
  | .local _ .vmem, ⟨8, _⟩ => ⟨S256x1280, .bf16⟩
  | .local _ .vmem, ⟨9, _⟩ => ⟨S8x256, .f32⟩
  | .local _ .vmem, ⟨10, _⟩ => ⟨S8x256, .f32⟩
  | _, _ => ⟨S1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S1024x1280 : Shape := ⟨2, ![1024, 1280]⟩
abbrev S1x1280 : Shape := ⟨2, ![1, 1280]⟩
abbrev S1280x1024 : Shape := ⟨2, ![1280, 1024]⟩
abbrev S8x1024 : Shape := ⟨2, ![8, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024x1280, .bf16⟩
  | .hbm, ⟨1, _⟩ => ⟨S1x1280, .f32⟩
  | .hbm, ⟨2, _⟩ => ⟨S1024x1280, .fp8e4m3⟩
  | .hbm, ⟨3, _⟩ => ⟨S1280x1024, .fp8e4m3⟩
  | .hbm, ⟨4, _⟩ => ⟨S1024x1280, .bf16⟩
  | .hbm, ⟨5, _⟩ => ⟨S8x1024, .f32⟩
  | .local _ .vmem, ⟨0, _⟩ => ⟨S1024x1280, .bf16⟩
  | .local _ .vmem, ⟨1, _⟩ => ⟨S1x1280, .f32⟩
  | .local _ .vmem, ⟨2, _⟩ => ⟨S1024x1280, .fp8e4m3⟩
  | .local _ .vmem, ⟨3, _⟩ => ⟨S1280x1024, .fp8e4m3⟩
  | .local _ .vmem, ⟨4, _⟩ => ⟨S1024x1280, .bf16⟩
  | .local _ .vmem, ⟨5, _⟩ => ⟨S8x1024, .f32⟩
  | _, _ => ⟨S1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S1024x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Fwd.lean ====
abbrev S250 : Shape := ⟨1, ![250]⟩
abbrev S32000x1280 : Shape := ⟨2, ![32000, 1280]⟩
abbrev S1280x1024 : Shape := ⟨2, ![1280, 1024]⟩
abbrev S8x1024 : Shape := ⟨2, ![8, 1024]⟩
abbrev S32000x1024 : Shape := ⟨2, ![32000, 1024]⟩
abbrev S1280x1280 : Shape := ⟨2, ![1280, 1280]⟩
abbrev S1x1024 : Shape := ⟨2, ![1, 1024]⟩
abbrev S256x1280 : Shape := ⟨2, ![256, 1280]⟩
abbrev S256x1024 : Shape := ⟨2, ![256, 1024]⟩
abbrev S1 : Shape := ⟨1, ![1]⟩
abbrev S128x1024 : Shape := ⟨2, ![128, 1024]⟩
abbrev S32x8x1024 : Shape := ⟨3, ![32, 8, 1024]⟩
abbrev S1x8x1024 : Shape := ⟨3, ![1, 8, 1024]⟩
abbrev S1024 : Shape := ⟨1, ![1024]⟩

abbrev nBuf : Space → Nat
  | .hbm => 6
  | .vmem => 9
  | .smem => 1
  | _ => 0

abbrev bufTy : (tb : Table) → Fin (tcTables nBuf tb) → BufTy
  | .hbm, ⟨0, _⟩ => ⟨S250, .f32⟩
  | .hbm, ⟨1, _⟩ => ⟨S32000x1280, .fp8e4m3⟩
  | .hbm, ⟨2, _⟩ => ⟨S1280x1024, .fp8e4m3⟩
  | .hbm, ⟨3, _⟩ => ⟨S8x1024, .f32⟩
  | .hbm, ⟨4, _⟩ => ⟨S32000x1024, .f32⟩
  | .hbm, ⟨5, _⟩ => ⟨S8x1024, .f32⟩
  | .local _ .vmem, ⟨0, _⟩ => ⟨S1280x1280, .fp8e4m3⟩
  | .local _ .vmem, ⟨1, _⟩ => ⟨S1280x1280, .fp8e4m3⟩
  | .local _ .vmem, ⟨2, _⟩ => ⟨S1280x1024, .fp8e4m3⟩
  | .local _ .vmem, ⟨3, _⟩ => ⟨S8x1024, .f32⟩
  | .local _ .vmem, ⟨4, _⟩ => ⟨S1280x1024, .f32⟩
  | .local _ .vmem, ⟨5, _⟩ => ⟨S1280x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .smem, ⟨0, _⟩ => ⟨S250, .f32⟩
  | _, _ => ⟨S250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![25], ![false]⟩

def k0_off1 (i : grid0.Coords) (c0_i32_7 : BitVec 32) (c0_i32_8 : BitVec 32) : Fin 1 → Nat :=
  let arg0 : BitVec 32 := BitVec.ofNat 32 (i 0).val
  let c10_i32 : BitVec 32 := 10#32
  let v9 : BitVec 32 := Scalar.muli arg0 c10_i32
  let v10 : BitVec 32 := Scalar.addi v9 c0_i32_7
  let v11 : BitVec 32 := Scalar.addi v10 c0_i32_8
  let v12 : Index := Scalar.indexCast v11
  ![v12.toNat]
def k0_cond2 (i : grid0.Coords) : BitVec 1 :=
  let arg0 : BitVec 32 := BitVec.ofNat 32 (i 0).val
  let c24_i32 : BitVec 32 := 24#32
  let v231 : BitVec 1 := Scalar.cmpi .eq arg0 c24_i32
  let v232 : BitVec 32 := Scalar.extui v231
  let c0_i32_107 : BitVec 32 := 0#32
  let v233 : BitVec 1 := Scalar.cmpi .ne v232 c0_i32_107
  v233

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S250 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FwdIdeal.lean ====
variable {F : FTy → Type} [FloatOps F] [Named F]
def κ : String → Option EReal := fun
  | "log2e" => some (((Real.log 2)⁻¹ : ℝ) : EReal)
  | _ => none
-- ==== FwdRefIdeal.lean ====
abbrev S250 : Shape := ⟨1, ![250]⟩
abbrev S32000x1280 : Shape := ⟨2, ![32000, 1280]⟩
abbrev S1280x1024 : Shape := ⟨2, ![1280, 1024]⟩
abbrev S8x1024 : Shape := ⟨2, ![8, 1024]⟩
abbrev S32000x1024 : Shape := ⟨2, ![32000, 1024]⟩
abbrev S250x1x1 : Shape := ⟨3, ![250, 1, 1]⟩
abbrev S250x128x1 : Shape := ⟨3, ![250, 128, 1]⟩
abbrev S32000x1 : Shape := ⟨2, ![32000, 1]⟩
abbrev S1x1024 : Shape := ⟨2, ![1, 1024]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S250, .f32⟩
  | .hbm, ⟨1, _⟩ => ⟨S32000x1280, .fp8e4m3⟩
  | .hbm, ⟨2, _⟩ => ⟨S1280x1024, .fp8e4m3⟩
  | .hbm, ⟨3, _⟩ => ⟨S8x1024, .f32⟩
  | .hbm, ⟨4, _⟩ => ⟨S32000x1024, .f32⟩
  | .hbm, ⟨5, _⟩ => ⟨S8x1024, .f32⟩
  | .local _ .vmem, ⟨0, _⟩ => ⟨S250, .f32⟩
  | .local _ .vmem, ⟨1, _⟩ => ⟨S32000x1280, .fp8e4m3⟩
  | .local _ .vmem, ⟨2, _⟩ => ⟨S1280x1024, .fp8e4m3⟩
  | .local _ .vmem, ⟨3, _⟩ => ⟨S8x1024, .f32⟩
  | .local _ .vmem, ⟨4, _⟩ => ⟨S32000x1024, .f32⟩
  | .local _ .vmem, ⟨5, _⟩ => ⟨S8x1024, .f32⟩
  | _, _ => ⟨S250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S250 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32000x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Bwd.lean ====
abbrev S250 : Shape := ⟨1, ![250]⟩
abbrev S32000x1280 : Shape := ⟨2, ![32000, 1280]⟩
abbrev S32000x1024 : Shape := ⟨2, ![32000, 1024]⟩
abbrev S8x1024 : Shape := ⟨2, ![8, 1024]⟩
abbrev S1x1024 : Shape := ⟨2, ![1, 1024]⟩
abbrev S1024x1280 : Shape := ⟨2, ![1024, 1280]⟩
abbrev S5x1024x6400 : Shape := ⟨3, ![5, 1024, 6400]⟩
abbrev S25x10x1024 : Shape := ⟨3, ![25, 10, 1024]⟩
abbrev S1280x1024 : Shape := ⟨2, ![1280, 1024]⟩
abbrev S1x128 : Shape := ⟨2, ![1, 128]⟩
abbrev S1280x1280 : Shape := ⟨2, ![1280, 1280]⟩
abbrev S1x1024x1280 : Shape := ⟨3, ![1, 1024, 1280]⟩
abbrev S1x10x1024 : Shape := ⟨3, ![1, 10, 1024]⟩
abbrev S1 : Shape := ⟨1, ![1]⟩
abbrev S1x1 : Shape := ⟨2, ![1, 1]⟩
abbrev S128x1024 : Shape := ⟨2, ![128, 1024]⟩
abbrev S16x8x1024 : Shape := ⟨3, ![16, 8, 1024]⟩
abbrev S1024 : Shape := ⟨1, ![1024]⟩
abbrev S1024x128 : Shape := ⟨2, ![1024, 128]⟩
abbrev S1x1024x128 : Shape := ⟨3, ![1, 1024, 128]⟩
abbrev S1x1x1024 : Shape := ⟨3, ![1, 1, 1024]⟩
abbrev S256x1024 : Shape := ⟨2, ![256, 1024]⟩
abbrev S256x1280 : Shape := ⟨2, ![256, 1280]⟩
abbrev S128x1280 : Shape := ⟨2, ![128, 1280]⟩
abbrev S1x512 : Shape := ⟨2, ![1, 512]⟩

abbrev nBuf : Space → Nat
  | .hbm => 13
  | .vmem => 19
  | .smem => 1
  | _ => 0

abbrev bufTy : (tb : Table) → Fin (tcTables nBuf tb) → BufTy
  | .hbm, ⟨0, _⟩ => ⟨S250, .f32⟩
  | .hbm, ⟨1, _⟩ => ⟨S32000x1280, .fp8e4m3⟩
  | .hbm, ⟨2, _⟩ => ⟨S32000x1024, .f32⟩
  | .hbm, ⟨3, _⟩ => ⟨S8x1024, .f32⟩
  | .hbm, ⟨4, _⟩ => ⟨S1x1024, .i32⟩
  | .hbm, ⟨5, _⟩ => ⟨S1x1024, .i32⟩
  | .hbm, ⟨6, _⟩ => ⟨S1024x1280, .bf16⟩
  | .hbm, ⟨7, _⟩ => ⟨S32000x1280, .f32⟩
  | .hbm, ⟨8, _⟩ => ⟨S5x1024x6400, .fp8e5m2⟩
  | .hbm, ⟨9, _⟩ => ⟨S25x10x1024, .f32⟩
  | .hbm, ⟨10, _⟩ => ⟨S1280x1024, .f32⟩
  | .hbm, ⟨11, _⟩ => ⟨S1x1024, .f32⟩
  | .hbm, ⟨12, _⟩ => ⟨S1x128, .f32⟩
  | .local _ .vmem, ⟨0, _⟩ => ⟨S1280x1280, .fp8e4m3⟩
  | .local _ .vmem, ⟨1, _⟩ => ⟨S1280x1280, .fp8e4m3⟩
  | .local _ .vmem, ⟨2, _⟩ => ⟨S1280x1024, .f32⟩
  | .local _ .vmem, ⟨3, _⟩ => ⟨S1280x1024, .f32⟩
  | .local _ .vmem, ⟨4, _⟩ => ⟨S8x1024, .f32⟩
  | .local _ .vmem, ⟨5, _⟩ => ⟨S1x1024, .i32⟩
  | .local _ .vmem, ⟨6, _⟩ => ⟨S1x1024, .i32⟩
  | .local _ .vmem, ⟨7, _⟩ => ⟨S1024x1280, .bf16⟩
  | .local _ .vmem, ⟨8, _⟩ => ⟨S1280x1280, .f32⟩
  | .local _ .vmem, ⟨9, _⟩ => ⟨S1280x1280, .f32⟩
  | .local _ .vmem, ⟨10, _⟩ => ⟨S1x1024x1280, .fp8e5m2⟩
  | .local _ .vmem, ⟨11, _⟩ => ⟨S1x1024x1280, .fp8e5m2⟩
  | .local _ .vmem, ⟨12, _⟩ => ⟨S1x10x1024, .f32⟩
  | .local _ .vmem, ⟨13, _⟩ => ⟨S1x10x1024, .f32⟩
  | .local _ .vmem, ⟨14, _⟩ => ⟨S1280x1024, .f32⟩
  | .local _ .vmem, ⟨15, _⟩ => ⟨S1x1024, .f32⟩
  | .local _ .vmem, ⟨16, _⟩ => ⟨S1x128, .f32⟩
  | .local _ .vmem, ⟨17, _⟩ => ⟨S1280x1024, .bf16⟩
  | .local _ .vmem, ⟨18, _⟩ => ⟨S8x1024, .f32⟩
  | .local _ .smem, ⟨0, _⟩ => ⟨S250, .f32⟩
  | _, _ => ⟨S250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![25], ![false]⟩

def k0_off1 (i : grid0.Coords) (c0_i32_413 : BitVec 32) : Fin 1 → Nat :=
  let arg0 : BitVec 32 := BitVec.ofNat 32 (i 0).val
  let c10_i32 : BitVec 32 := 10#32
  let v1125 : BitVec 32 := Scalar.muli arg0 c10_i32
  let v1126 : BitVec 32 := Scalar.addi v1125 c0_i32_413
  let v1127 : Index := Scalar.indexCast v1126
  ![v1127.toNat]
def k0_cond2 (i : grid0.Coords) : BitVec 1 :=
  let arg0 : BitVec 32 := BitVec.ofNat 32 (i 0).val
  let c24_i32 : BitVec 32 := 24#32
  let v1220 : BitVec 1 := Scalar.cmpi .eq arg0 c24_i32
  let v1221 : BitVec 32 := Scalar.extui v1220
  let c0_i32_448 : BitVec 32 := 0#32
  let v1222 : BitVec 1 := Scalar.cmpi .ne v1221 c0_i32_448
  v1222

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S250 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1280x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1280 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x10x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1280x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== BwdIdeal.lean ====
variable {F : FTy → Type} [FloatOps F] [Named F]
def κ : String → Option EReal := fun
  | "ln2" => some ((Real.log 2 : ℝ) : EReal)
  | _ => none
-- ==== BwdRefIdeal.lean ====
abbrev S250 : Shape := ⟨1, ![250]⟩
abbrev S32000x1280 : Shape := ⟨2, ![32000, 1280]⟩
abbrev S32000x1024 : Shape := ⟨2, ![32000, 1024]⟩
abbrev S8x1024 : Shape := ⟨2, ![8, 1024]⟩
abbrev S1x1024 : Shape := ⟨2, ![1, 1024]⟩
abbrev S1024x1280 : Shape := ⟨2, ![1024, 1280]⟩
abbrev S5x1024x6400 : Shape := ⟨3, ![5, 1024, 6400]⟩
abbrev S25x10x1024 : Shape := ⟨3, ![25, 10, 1024]⟩
abbrev S1280x1024 : Shape := ⟨2, ![1280, 1024]⟩
abbrev S1 : Shape := ⟨1, ![1]⟩
abbrev S1x1 : Shape := ⟨2, ![1, 1]⟩
abbrev S250x128x1024 : Shape := ⟨3, ![250, 128, 1024]⟩
abbrev S250x1024 : Shape := ⟨2, ![250, 1024]⟩
abbrev S250x1x1024 : Shape := ⟨3, ![250, 1, 1024]⟩
abbrev S250x1x1 : Shape := ⟨3, ![250, 1, 1]⟩
abbrev S250x128x1 : Shape := ⟨3, ![250, 128, 1]⟩
abbrev S32000x1 : Shape := ⟨2, ![32000, 1]⟩
abbrev S5x6400x1024 : Shape := ⟨3, ![5, 6400, 1024]⟩
abbrev S1024 : Shape := ⟨1, ![1024]⟩

abbrev nBuf : Space → Nat
  | .hbm => 12
  | .vmem => 12
  | .smem => 0
  | _ => 0

abbrev bufTy : (tb : Table) → Fin (tcTables nBuf tb) → BufTy
  | .hbm, ⟨0, _⟩ => ⟨S250, .f32⟩
  | .hbm, ⟨1, _⟩ => ⟨S32000x1280, .fp8e4m3⟩
  | .hbm, ⟨2, _⟩ => ⟨S32000x1024, .f32⟩
  | .hbm, ⟨3, _⟩ => ⟨S8x1024, .f32⟩
  | .hbm, ⟨4, _⟩ => ⟨S1x1024, .i32⟩
  | .hbm, ⟨5, _⟩ => ⟨S1x1024, .i32⟩
  | .hbm, ⟨6, _⟩ => ⟨S1024x1280, .bf16⟩
  | .hbm, ⟨7, _⟩ => ⟨S32000x1280, .f32⟩
  | .hbm, ⟨8, _⟩ => ⟨S5x1024x6400, .fp8e5m2⟩
  | .hbm, ⟨9, _⟩ => ⟨S25x10x1024, .f32⟩
  | .hbm, ⟨10, _⟩ => ⟨S1280x1024, .f32⟩
  | .hbm, ⟨11, _⟩ => ⟨S1x1024, .f32⟩
  | .local _ .vmem, ⟨0, _⟩ => ⟨S250, .f32⟩
  | .local _ .vmem, ⟨1, _⟩ => ⟨S32000x1280, .fp8e4m3⟩
  | .local _ .vmem, ⟨2, _⟩ => ⟨S32000x1024, .f32⟩
  | .local _ .vmem, ⟨3, _⟩ => ⟨S8x1024, .f32⟩
  | .local _ .vmem, ⟨4, _⟩ => ⟨S1x1024, .i32⟩
  | .local _ .vmem, ⟨5, _⟩ => ⟨S1x1024, .i32⟩
  | .local _ .vmem, ⟨6, _⟩ => ⟨S1024x1280, .bf16⟩
  | .local _ .vmem, ⟨7, _⟩ => ⟨S32000x1280, .f32⟩
  | .local _ .vmem, ⟨8, _⟩ => ⟨S5x1024x6400, .fp8e5m2⟩
  | .local _ .vmem, ⟨9, _⟩ => ⟨S25x10x1024, .f32⟩
  | .local _ .vmem, ⟨10, _⟩ => ⟨S1280x1024, .f32⟩
  | .local _ .vmem, ⟨11, _⟩ => ⟨S1x1024, .f32⟩
  | _, _ => ⟨S250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S250 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32000x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x1024x6400 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S25x10x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1280x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Dx.lean ====
abbrev S1024x1280 : Shape := ⟨2, ![1024, 1280]⟩
abbrev S1x1280 : Shape := ⟨2, ![1, 1280]⟩
abbrev S1280x1024 : Shape := ⟨2, ![1280, 1024]⟩
abbrev S256x1280 : Shape := ⟨2, ![256, 1280]⟩
abbrev S1280x256 : Shape := ⟨2, ![1280, 256]⟩
abbrev S256 : Shape := ⟨1, ![256]⟩
abbrev S256x1 : Shape := ⟨2, ![256, 1]⟩
abbrev S1280 : Shape := ⟨1, ![1280]⟩

abbrev nBuf : Space → Nat
  | .hbm => 5
  | .vmem => 8
  | .smem => 0
  | _ => 0

abbrev bufTy : (tb : Table) → Fin (tcTables nBuf tb) → BufTy
  | .hbm, ⟨0, _⟩ => ⟨S1024x1280, .bf16⟩
  | .hbm, ⟨1, _⟩ => ⟨S1x1280, .f32⟩
  | .hbm, ⟨2, _⟩ => ⟨S1280x1024, .f32⟩
  | .hbm, ⟨3, _⟩ => ⟨S1024x1280, .bf16⟩
  | .hbm, ⟨4, _⟩ => ⟨S1x1280, .f32⟩
  | .local _ .vmem, ⟨0, _⟩ => ⟨S256x1280, .bf16⟩
  | .local _ .vmem, ⟨1, _⟩ => ⟨S256x1280, .bf16⟩
  | .local _ .vmem, ⟨2, _⟩ => ⟨S1x1280, .f32⟩
  | .local _ .vmem, ⟨3, _⟩ => ⟨S1280x256, .f32⟩
  | .local _ .vmem, ⟨4, _⟩ => ⟨S1280x256, .f32⟩
  | .local _ .vmem, ⟨5, _⟩ => ⟨S256x1280, .bf16⟩
  | .local _ .vmem, ⟨6, _⟩ => ⟨S256x1280, .bf16⟩
  | .local _ .vmem, ⟨7, _⟩ => ⟨S1x1280, .f32⟩
  | _, _ => ⟨S1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DxRefIdeal.lean ====
abbrev S1024x1280 : Shape := ⟨2, ![1024, 1280]⟩
abbrev S1x1280 : Shape := ⟨2, ![1, 1280]⟩
abbrev S1280x1024 : Shape := ⟨2, ![1280, 1024]⟩
abbrev S_ : Shape := ⟨0, ![]⟩
abbrev S1024 : Shape := ⟨1, ![1024]⟩
abbrev S1024x1 : Shape := ⟨2, ![1024, 1]⟩
abbrev S1280 : Shape := ⟨1, ![1280]⟩

abbrev nBuf : Space → Nat
  | .hbm => 37
  | .vmem => 0
  | .smem => 0
  | _ => 0

abbrev bufTy : (tb : Table) → Fin (tcTables nBuf tb) → BufTy
  | .hbm, ⟨0, _⟩ => ⟨S1024x1280, .bf16⟩
  | .hbm, ⟨1, _⟩ => ⟨S1x1280, .f32⟩
  | .hbm, ⟨2, _⟩ => ⟨S1280x1024, .f32⟩
  | .hbm, ⟨3, _⟩ => ⟨S1024x1280, .f32⟩
  | .hbm, ⟨4, _⟩ => ⟨S1024x1280, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1280, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S1024x1280, .f32⟩
  | .hbm, ⟨20, _⟩ => ⟨S1024x1280, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S1024x1280, .f32⟩
  | .hbm, ⟨31, _⟩ => ⟨S1024x1280, .f32⟩
  | .hbm, ⟨32, _⟩ => ⟨S1024x1280, .bf16⟩
  | .hbm, ⟨33, _⟩ => ⟨S1024x1280, .f32⟩
  | .hbm, ⟨34, _⟩ => ⟨S_, .f32⟩
  | .hbm, ⟨35, _⟩ => ⟨S1280, .f32⟩
  | .hbm, ⟨36, _⟩ => ⟨S1x1280, .f32⟩
  | _, _ => ⟨S1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Lse.lean ====
module

public import Idealize.ShloMosaic.PureOps.Ideal.Laws

@[expose] public section

set_option maxRecDepth 16384

noncomputable section

open Idealize.ShloMosaic

/-! # Log-sum-exp of a token's logits, taken block by block

A token has 32000 logits in base two. They arrive in blocks of 256; of each block, eight sublanes take 32 logits each
and keep the largest logit so far and the sum of the powers of two of what lies below it. -/

namespace Cert.Lse

/-- Two to the power minus infinity is zero. -/
theorem exp2_bot : Ideal.exp2 ⊥ = 0 := rfl

/-- Powers of two of differences multiply along an increasing chain, at the infinities too. -/
theorem exp2_sub_mul {l m M : EReal} (h : l ≤ m) (h' : m ≤ M) :
    Ideal.exp2 (l - m) * Ideal.exp2 (m - M) = Ideal.exp2 (l - M) := by
  induction l with
  | bot => simp [exp2_bot]
  | top =>
    obtain rfl : m = ⊤ := top_le_iff.mp h
    obtain rfl : M = ⊤ := top_le_iff.mp h'
    simp [exp2_bot, sub_eq_add_neg]
  | coe l =>
    induction m with
    | bot => simp at h
    | top =>
      obtain rfl : M = ⊤ := top_le_iff.mp h'
      simp [exp2_bot, sub_eq_add_neg]
    | coe m =>
      induction M with
      | bot => simp at h'
      | top => simp [exp2_bot, sub_eq_add_neg]
      | coe M =>
        rw [← EReal.coe_sub, ← EReal.coe_sub, ← EReal.coe_sub]
        show ((Real.rpow 2 (l - m) : ℝ) : EReal) * ((Real.rpow 2 (m - M) : ℝ) : EReal) = ((Real.rpow 2 (l - M) : ℝ) : EReal)
        rw [← EReal.coe_mul]
        congr 1
        show (2 : ℝ) ^ (l - m) * (2 : ℝ) ^ (m - M) = (2 : ℝ) ^ (l - M)
        rw [← Real.rpow_add (by norm_num)]
        congr 1
        ring

/-- A power of two is not negative. -/
theorem exp2_nonneg (x : EReal) : 0 ≤ Ideal.exp2 x := by
  induction x with
  | bot => exact le_refl _
  | top => exact le_top
  | coe r => exact EReal.coe_nonneg.mpr (Real.rpow_nonneg (by norm_num) r)

/-- A factor goes into a sum of numbers that are not negative. -/
theorem sum_mul_of_nonneg {ι : Type} (S : Finset ι) (f : ι → EReal) (hf : ∀ i, 0 ≤ f i) (x : EReal) :
    (∑ i ∈ S, f i) * x = ∑ i ∈ S, f i * x := by
  classical
  induction S using Finset.induction_on with
  | empty => simp
  | insert a S ha ih =>
    rw [Finset.sum_insert ha, Finset.sum_insert ha, EReal.right_distrib_of_nonneg (hf a) (Finset.sum_nonneg fun i _ => hf i), ih]

/-- A sum of powers of two under a maximum, moved to a larger maximum. -/
theorem rescale {ι : Type} (S : Finset ι) (l : ι → EReal) {M : EReal} (h : S.sup l ≤ M) :
    (∑ v ∈ S, Ideal.exp2 (l v - S.sup l)) * Ideal.exp2 (S.sup l - M) = ∑ v ∈ S, Ideal.exp2 (l v - M) := by
  rw [sum_mul_of_nonneg _ _ fun _ => exp2_nonneg _]
  exact Finset.sum_congr rfl fun v hv => exp2_sub_mul (Finset.le_sup hv) h

/-- A maximum taken as a fold from minus infinity is the supremum. -/
theorem fold_max_eq_sup {ι : Type} [Fintype ι] (f : ι → EReal) :
    (Finset.univ : Finset ι).fold max ⊥ f = Finset.univ.sup f := rfl

/-- The `n` blocks of 256 seen so far: the logits of sublane `r` in them. -/
def upto (n r : ℕ) : Finset (Fin 32000) := Finset.univ.filter fun v => v.val / 256 < n ∧ v.val % 8 = r

/-- Logit `a` of sublane `r` in block `n`. -/
def at_ (n : ℕ) (hn : n < 125) (r : Fin 8) (a : Fin 32) : Fin 32000 := ⟨256 * n + (8 * a.val + r.val), by omega⟩

/-- Nothing is seen at the start. -/
theorem upto_zero (r : ℕ) : upto 0 r = ∅ := by
  ext v; simp [upto]

/-- One block more. -/
theorem upto_succ (n : ℕ) (hn : n < 125) (r : Fin 8) :
    upto (n + 1) r = upto n r ∪ Finset.univ.image (at_ n hn r) := by
  ext v
  simp only [upto, at_, Finset.mem_union, Finset.mem_filter, Finset.mem_univ, true_and, Finset.mem_image]
  constructor
  · rintro ⟨h1, h2⟩
    by_cases h : v.val / 256 < n
    · exact .inl ⟨h, h2⟩
    · exact .inr ⟨⟨v.val % 256 / 8, by omega⟩, Fin.ext (by show 256 * n + (8 * (v.val % 256 / 8) + r.val) = v.val; omega)⟩
  · rintro (⟨h1, h2⟩ | ⟨a, rfl⟩)
    · exact ⟨by omega, h2⟩
    · have := r.isLt; have := a.isLt
      exact ⟨by show (256 * n + (8 * a.val + r.val)) / 256 < n + 1; omega, by show (256 * n + (8 * a.val + r.val)) % 8 = r.val; omega⟩

/-- The new block's logits are new. -/
theorem upto_disjoint (n : ℕ) (hn : n < 125) (r : Fin 8) : Disjoint (upto n r) (Finset.univ.image (at_ n hn r)) := by
  rw [Finset.disjoint_left]
  intro v hv hv'
  obtain ⟨a, -, rfl⟩ := Finset.mem_image.mp hv'
  have := (Finset.mem_filter.mp hv).2.1
  change (256 * n + (8 * a.val + r.val)) / 256 < n at this
  omega

/-- Two logits of one sublane's share of a block differ. -/
theorem at_inj (n : ℕ) (hn : n < 125) (r : Fin 8) : Function.Injective (at_ n hn r) := by
  intro a b h
  have := congrArg Fin.val h
  change 256 * n + (8 * a.val + r.val) = 256 * n + (8 * b.val + r.val) at this
  exact Fin.ext (by omega)

/-- What a sublane holds after `n` blocks: the largest logit and the sum of the powers of two below it. -/
def Holds (l : Fin 32000 → EReal) (n r : ℕ) (m s : EReal) : Prop :=
  m = (upto n r).sup l ∧ s = ∑ v ∈ upto n r, Ideal.exp2 (l v - m)

/-- At the start: minus infinity and zero. -/
theorem holds_zero (l : Fin 32000 → EReal) (r : ℕ) : Holds l 0 r ⊥ 0 := by
  rw [Holds, upto_zero]
  exact ⟨rfl, rfl⟩

/-- One block: the new maximum, the old sum moved to it, the block's powers added. -/
theorem holds_succ (l : Fin 32000 → EReal) (n : ℕ) (hn : n < 125) (r : Fin 8) {m s : EReal} (h : Holds l n r m s)
    (x : Fin 32 → EReal) (hx : ∀ a, x a = l (at_ n hn r a)) :
    Holds l (n + 1) r (max m (Finset.univ.sup x))
      (s * Ideal.exp2 (m - max m (Finset.univ.sup x)) + ∑ a, Ideal.exp2 (x a - max m (Finset.univ.sup x))) := by
  have hm0 : m = (upto n r).sup l := h.1
  have hs0 : s = ∑ v ∈ upto n r, Ideal.exp2 (l v - m) := h.2
  have hx' : Finset.univ.sup x = (Finset.univ.image (at_ n hn r)).sup l := by
    rw [Finset.sup_image]
    exact Finset.sup_congr rfl fun a _ => hx a
  have hm : max m (Finset.univ.sup x) = (upto (n + 1) r).sup l := by
    rw [upto_succ n hn, Finset.sup_union, hx', hm0]
  refine ⟨hm, ?_⟩
  rw [hs0, hm0, rescale _ _ (le_max_left _ _), upto_succ n hn, Finset.sum_union (upto_disjoint n hn r),
    Finset.sum_image fun a _ b _ h => at_inj n hn r h]
  exact congrArg _ (Finset.sum_congr rfl fun a _ => by rw [hx a])

/-- After all the blocks the eight sublanes hold every logit. -/
theorem sup_all (l : Fin 32000 → EReal) : (Finset.univ.sup fun r : Fin 8 => (upto 125 r).sup l) = Finset.univ.sup l := by
  refine le_antisymm (Finset.sup_le fun r _ => Finset.sup_mono (Finset.subset_univ _)) (Finset.sup_le fun v _ => ?_)
  have hv : v ∈ upto 125 (⟨v.val % 8, Nat.mod_lt _ (by decide)⟩ : Fin 8).val :=
    Finset.mem_filter.mpr ⟨Finset.mem_univ _, by have := v.isLt; omega, rfl⟩
  exact (Finset.le_sup hv).trans (Finset.le_sup (f := fun r : Fin 8 => (upto 125 r).sup l) (Finset.mem_univ _))

/-- So a sum over them is the sum over all. -/
theorem sum_all (f : Fin 32000 → EReal) : (∑ r : Fin 8, ∑ v ∈ upto 125 r, f v) = ∑ v, f v := by
  rw [← Finset.sum_fiberwise Finset.univ (fun v : Fin 32000 => (⟨v.val % 8, Nat.mod_lt _ (by decide)⟩ : Fin 8)) f]
  refine Finset.sum_congr rfl fun r _ => Finset.sum_congr ?_ fun _ _ => rfl
  ext v
  simp only [upto, Finset.mem_filter, Finset.mem_univ, true_and]
  constructor
  · rintro ⟨-, h⟩; exact Fin.ext h
  · rintro rfl; exact ⟨by have := v.isLt; omega, rfl⟩

/-- The sublanes' states together: the largest logit, and the sum of the powers of two below it. -/
theorem holds_all (l : Fin 32000 → EReal) (m s : Fin 8 → EReal) (h : ∀ r : Fin 8, Holds l 125 r (m r) (s r)) :
    Finset.univ.sup m = Finset.univ.sup l ∧
      (∑ r, s r * Ideal.exp2 (m r - Finset.univ.sup m)) = ∑ v, Ideal.exp2 (l v - Finset.univ.sup l) := by
  have hm0 : m = fun r : Fin 8 => (upto 125 r).sup l := funext fun r => (h r).1
  have hm : Finset.univ.sup m = Finset.univ.sup l := by rw [hm0]; exact sup_all l
  refine ⟨hm, ?_⟩
  rw [hm, ← sum_all]
  refine Finset.sum_congr rfl fun r _ => ?_
  have hs : s r = ∑ v ∈ upto 125 r, Ideal.exp2 (l v - m r) := (h r).2
  have hr : m r = (upto 125 r).sup l := (h r).1
  rw [hs, hr]
  exact rescale _ _ (Finset.sup_mono (Finset.subset_univ _))

/-! ## Base two against base e -/

/-- A positive real factor goes into a difference. -/
theorem sub_mul_pos (x m : EReal) {c : ℝ} (hc : 0 < c) : x * c - m * c = (x - m) * c := by
  rw [sub_eq_add_neg, sub_eq_add_neg, ← EReal.neg_mul, mul_comm x, mul_comm (-m), mul_comm (x + -m),
    EReal.left_distrib_of_nonneg_of_ne_top (EReal.coe_nonneg.mpr hc.le) (EReal.coe_ne_top c)]

/-- Two to the power x / log 2 is e to the power x. -/
theorem exp2_mul_log2e (x : EReal) : Ideal.exp2 (x * (((Real.log 2)⁻¹ : ℝ) : EReal)) = Ideal.exp x := by
  have hc : 0 < (Real.log 2)⁻¹ := inv_pos.mpr (Real.log_pos (by norm_num))
  induction x with
  | bot => rw [EReal.bot_mul_coe_of_pos hc]; rfl
  | top => rw [EReal.top_mul_coe_of_pos hc]; rfl
  | coe x =>
    rw [← EReal.coe_mul]
    show (((2 : ℝ) ^ (x * (Real.log 2)⁻¹) : ℝ) : EReal) = ((Real.exp x : ℝ) : EReal)
    rw [Real.rpow_def_of_pos (by norm_num)]
    congr 2
    field_simp

/-- The largest of the scaled logits is the scaled largest. -/
theorem sup_mul_pos {ι : Type} [Fintype ι] (x : ι → EReal) {c : ℝ} (hc : 0 < c) :
    Finset.univ.sup (fun v => x v * c) = Finset.univ.sup x * c := by
  have hmono : Monotone fun y : EReal => y * (c : EReal) := fun a b h =>
    mul_le_mul_of_nonneg_right h (EReal.coe_nonneg.mpr hc.le)
  exact (Finset.comp_sup_eq_sup_comp (fun y : EReal => y * (c : EReal)) (fun a b => hmono.map_sup a b)
    (EReal.bot_mul_coe_of_pos hc)).symm

/-- The log-sum-exp in base two of the logits over log 2 is the log-sum-exp over log 2. -/
theorem lse_base {ι : Type} [Fintype ι] (x : ι → EReal) {c : ℝ} (hc : c = (Real.log 2)⁻¹) :
    Finset.univ.sup (fun v => x v * (c : EReal))
        + Ideal.log (∑ v, Ideal.exp2 (x v * c - Finset.univ.sup fun v => x v * (c : EReal))) * c
      = (Finset.univ.sup x + Ideal.log (∑ v, Ideal.exp (x v - Finset.univ.sup x))) * c := by
  have hp : 0 < c := hc ▸ inv_pos.mpr (Real.log_pos (by norm_num))
  rw [sup_mul_pos x hp]
  simp only [sub_mul_pos _ _ hp]
  subst hc
  simp only [exp2_mul_log2e]
  rw [mul_comm (_ + _), EReal.left_distrib_of_nonneg_of_ne_top (EReal.coe_nonneg.mpr hp.le) (EReal.coe_ne_top _),
    mul_comm _ (Finset.univ.sup x), mul_comm _ (Ideal.log _)]

end Cert.Lse

end
-- ==== Proof.FwdStep.lean ====
module

public import proofs.«01_k».proof.Proof.Gen.FwdIdeal.Value
public import proofs.«01_k».proof.Proof.Lse
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

/-! The blocks of a point are written out one by one in the body. Each is the same function of its loads. -/

section Uniform

variable (v3 : Vec Ideal S1x1024 .f32) (v5 : FVec Ideal S1x1024 .f32) (a : Vec Ideal S256x1280 .fp8e4m3) (b : Vec Ideal S1280x1024 .fp8e4m3) (s t : Elt Ideal .f32) (M S : Vec Ideal S8x1024 .f32)

/-- The logits of block 0. -/
theorem logits_0 : k0_pay6 v3 a b s t = k0_pay11 (k0_pay5 v3) a b s t := rfl

/-- The logits of block 2. -/
theorem logits_2 : k0_pay18 v5 (k0_pay16 a b) (k0_pay17 v5 a b s) t = k0_pay11 v5 a b s t := rfl

/-- The logits of block 3. -/
theorem logits_3 : k0_pay24 v5 (k0_pay23 a b) s t = k0_pay11 v5 a b s t := rfl

/-- The logits of block 4. -/
theorem logits_4 : k0_pay29 v5 a b s t = k0_pay11 v5 a b s t := rfl

/-- The maximum after block 0. -/
theorem max_0 : k0_pay9 (k0_pay8 v3 a b s t M) = k0_pay14 (k0_pay11 (k0_pay5 v3) a b s t) M := rfl

/-- The maximum after block 2. -/
theorem max_2 : k0_pay21 v5 (k0_pay16 a b) (k0_pay17 v5 a b s) t M = k0_pay14 (k0_pay11 v5 a b s t) M := rfl

/-- The maximum after block 3. -/
theorem max_3 : k0_pay27 v5 (k0_pay23 a b) s t M = k0_pay14 (k0_pay11 v5 a b s t) M := rfl

/-- The maximum after block 4. -/
theorem max_4 : k0_pay32 v5 a b s t M = k0_pay14 (k0_pay11 v5 a b s t) M := rfl

/-- The sum after block 0. -/
theorem sum_0 : k0_pay10 (k0_pay7 v3 a b s t) M (k0_pay8 v3 a b s t M) S = k0_pay15 (k0_pay11 (k0_pay5 v3) a b s t) M S := rfl

/-- The sum after block 2. -/
theorem sum_2 : k0_pay22 v5 (k0_pay16 a b) (k0_pay17 v5 a b s) t M S = k0_pay15 (k0_pay11 v5 a b s t) M S := rfl

/-- The sum after block 3. -/
theorem sum_3 : k0_pay28 v5 (k0_pay23 a b) s t M S = k0_pay15 (k0_pay11 v5 a b s t) M S := rfl

/-- The sum after block 4. -/
theorem sum_4 : k0_pay1 (k0_pay33 v5 a b s t M S) (k0_pay34 v5 a b s t M) = k0_pay15 (k0_pay11 v5 a b s t) M S := rfl

end Uniform

section Step

variable (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .fp8e4m3) (harg3 : arg3.IsWhole) (arg4 : Memref sig .tc .vmem S8x1024 .f32) (harg4 : arg4.IsWhole) (arg5 : Memref sig .tc .vmem S1280x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole)
    (x0 : Vec Ideal S250 .f32) (x1 : Vec Ideal S1280x1280 .fp8e4m3) (x2 : Vec Ideal S1280x1024 .fp8e4m3) (x3 : Vec Ideal S8x1024 .f32) (xs0 : Vec Ideal S8x1024 .f32) (xs1 : Vec Ideal S8x1024 .f32)

/-- The loads of a block of 256 rows stay inside the point's weights. -/
theorem inb_rows (r : Fin 5) : ∀ a, (![256 * r.val, 0] : Fin 2 → ℕ) a + S256x1280.size a ≤ S1280x1280.size a := by
  revert r; decide

/-- A block of one number has a first entry. -/
theorem one_pos_S1 : 0 < S1.numel := by decide

/-- The base-two logits of block `r` of 256 rows at one grid point. -/
abbrev blkOf (r : Fin 5) : FVec Ideal S256x1024 .f32 :=
  k0_pay11 (k0_pay5 (View.ld x3 (Rect.unit ![0, 0] S1x1024.size inb_S8x1024_S1x1024_0_0)))
    (View.ld x1 (Rect.unit ![256 * r.val, 0] S256x1280.size (inb_rows r))) x2
    (View.ld x0 (Rect.unit (k0_off1 i (BitVec.ofNat 32 (2 * r.val)) 0#32) S1.size (k0_off1_inb i r 0)) (Shape.Idx.first one_pos_S1))
    (View.ld x0 (Rect.unit (k0_off1 i (BitVec.ofNat 32 (2 * r.val)) 1#32) S1.size (k0_off1_inb i r 1)) (Shape.Idx.first one_pos_S1))

/-- The running maximum over one point's five blocks. -/
abbrev maxOf (L : Fin 5 → FVec Ideal S256x1024 .f32) (M : Vec Ideal S8x1024 .f32) : ℕ → FVec Ideal S8x1024 .f32
  | 0 => M
  | n + 1 => k0_pay14 (L (Fin.ofNat 5 n)) (maxOf L M n)

/-- The running sum over one point's five blocks. -/
abbrev sumOf (L : Fin 5 → FVec Ideal S256x1024 .f32) (M S : Vec Ideal S8x1024 .f32) : ℕ → FVec Ideal S8x1024 .f32
  | 0 => S
  | n + 1 => k0_pay15 (L (Fin.ofNat 5 n)) (maxOf L M n) (sumOf L M S n)

/-- Case A: the maximum after the point. -/
theorem sout_A_0 (hc0 : cond0_0 i) (hc1 : ¬cond0_1 i) : sout0_A_0 (F := Ideal) c i arg1 harg1 arg2 harg2 arg3 harg3 arg4 harg4 arg5 harg5 arg6 harg6 arg7 harg7 arg8 harg8 hc0 hc1 x0 x1 x2 x3 = maxOf (blkOf i x0 x1 x2 x3) (k0_pay3 (F := Ideal)) 5 := by
  frame_out
  simp only [logits_0, logits_2, logits_3, logits_4, max_0, max_2, max_3, max_4, sum_0, sum_2, sum_3, sum_4]
  rfl

/-- Case A: the sum after the point. -/
theorem sout_A_1 (hc0 : cond0_0 i) (hc1 : ¬cond0_1 i) : sout0_A_1 (F := Ideal) c i arg1 harg1 arg2 harg2 arg3 harg3 arg4 harg4 arg5 harg5 arg6 harg6 arg7 harg7 arg8 harg8 hc0 hc1 x0 x1 x2 x3 = sumOf (blkOf i x0 x1 x2 x3) (k0_pay3 (F := Ideal)) (k0_pay4 (F := Ideal)) 5 := by
  frame_out
  simp only [logits_0, logits_2, logits_3, logits_4, max_0, max_2, max_3, max_4, sum_0, sum_2, sum_3, sum_4]
  rfl

/-- Case B: the maximum after the point. -/
theorem sout_B_0 (hc0 : ¬cond0_0 i) (hc1 : ¬cond0_1 i) : sout0_B_0 (F := Ideal) c i arg1 harg1 arg2 harg2 arg3 harg3 arg4 harg4 arg5 harg5 arg6 harg6 arg7 harg7 arg8 harg8 hc0 hc1 x0 x1 x2 x3 xs0 xs1 = maxOf (blkOf i x0 x1 x2 x3) xs0 5 := by
  frame_out
  simp only [logits_0, logits_2, logits_3, logits_4, max_0, max_2, max_3, max_4, sum_0, sum_2, sum_3, sum_4]
  rfl

/-- Case B: the sum after the point. -/
theorem sout_B_1 (hc0 : ¬cond0_0 i) (hc1 : ¬cond0_1 i) : sout0_B_1 (F := Ideal) c i arg1 harg1 arg2 harg2 arg3 harg3 arg4 harg4 arg5 harg5 arg6 harg6 arg7 harg7 arg8 harg8 hc0 hc1 x0 x1 x2 x3 xs0 xs1 = sumOf (blkOf i x0 x1 x2 x3) xs0 xs1 5 := by
  frame_out
  simp only [logits_0, logits_2, logits_3, logits_4, max_0, max_2, max_3, max_4, sum_0, sum_2, sum_3, sum_4]
  rfl

/-- Case C: the maximum after the point. -/
theorem sout_C_0 (hc0 : ¬cond0_0 i) (hc1 : cond0_1 i) : sout0_C_0 (F := Ideal) c i arg1 harg1 arg2 harg2 arg3 harg3 arg4 harg4 arg5 harg5 arg6 harg6 arg7 harg7 arg8 harg8 hc0 hc1 x0 x1 x2 x3 xs0 xs1 = maxOf (blkOf i x0 x1 x2 x3) xs0 5 := by
  frame_out
  simp only [logits_0, logits_2, logits_3, logits_4, max_0, max_2, max_3, max_4, sum_0, sum_2, sum_3, sum_4]
  rfl

/-- Case C: the sum after the point. -/
theorem sout_C_1 (hc0 : ¬cond0_0 i) (hc1 : cond0_1 i) : sout0_C_1 (F := Ideal) c i arg1 harg1 arg2 harg2 arg3 harg3 arg4 harg4 arg5 harg5 arg6 harg6 arg7 harg7 arg8 harg8 hc0 hc1 x0 x1 x2 x3 xs0 xs1 = sumOf (blkOf i x0 x1 x2 x3) xs0 xs1 5 := by
  frame_out
  simp only [logits_0, logits_2, logits_3, logits_4, max_0, max_2, max_3, max_4, sum_0, sum_2, sum_3, sum_4]
  rfl

/-- Case C: the log-sum-exp stored at the last point. -/
theorem out_C_5 (hc0 : ¬cond0_0 i) (hc1 : cond0_1 i) : out0_C_5 (F := Ideal) c i arg1 harg1 arg2 harg2 arg3 harg3 arg4 harg4 arg5 harg5 arg6 harg6 arg7 harg7 arg8 harg8 hc0 hc1 x0 x1 x2 x3 xs0 xs1
    = k0_pay2 (F := Ideal) (maxOf (blkOf i x0 x1 x2 x3) xs0 5) (sumOf (blkOf i x0 x1 x2 x3) xs0 xs1 5) (maxOf (blkOf i x0 x1 x2 x3) xs0 5) := by
  frame_out
  simp only [logits_0, logits_2, logits_3, logits_4, max_0, max_2, max_3, max_4, sum_0, sum_2, sum_3, sum_4]
  rfl

end Step

end Cert.FwdIdeal.Value

end
-- ==== Proof.FwdPoint.lean ====
module

public import proofs.«01_k».proof.Proof.Gen.FwdIdeal.Value
public import proofs.«01_k».proof.Proof.FwdStep
public import proofs.«01_k».proof.Proof.Gen.FwdRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

/-- The f32 pattern 0xFF800000 reads as minus infinity. -/
theorem ofBits_neg_inf : Ideal.ofBits .f32 4286578688#32 = (⊥ : EReal) := by
  simp [Ideal.ofBits, Ideal.ieee]

/-- The constant the programs write for 1 / log 2 is 1 / log 2. -/
theorem log2e : (Named.named κ "log2e" 1069066811#32 : Ideal .f32) = (((Real.log 2)⁻¹ : ℝ) : EReal) :=
  IdealRules.named_const.ideal_named_scalar _ _ _ _ rfl

/-- The same constant in the reference. -/
theorem log2e_ref : (Named.named Cert.FwdRefIdeal.κ "log2e" 1069066811#32 : Ideal .f32) = (((Real.log 2)⁻¹ : ℝ) : EReal) :=
  IdealRules.named_const.ideal_named_scalar _ _ _ _ rfl

/-- One block of logits at an index. -/
theorem pay11_apply (v5 : FVec Ideal S1x1024 .f32) (a : Vec Ideal S256x1280 .fp8e4m3) (b : Vec Ideal S1280x1024 .fp8e4m3) (s t : Elt Ideal .f32) (p : Fin 256) (q : Fin 1024) :
    k0_pay11 v5 a b s t (ix2 p q) = (∑ k : Fin 1280, a (ix2 p k) * b (ix2 k q)) * (v5 (ix2 0 q) * if p.val < 128 then s else t) := by
  pointwise [k0_pay11]
  by_cases h : p.val < 128
  · simp only [h, if_true, dif_pos]
  · simp only [h, if_false, dif_neg, not_false_eq_true]
    have e : (⟨128 + (p.val - 128), by omega⟩ : Fin 256) = p := Fin.ext (by simp only; omega)
    rw [e]

/-- The token scales in base two at an index. -/
theorem pay5_apply (v3 : Vec Ideal S1x1024 .f32) (q : Fin 1024) :
    k0_pay5 v3 (ix2 0 q) = v3 (ix2 0 q) * (((Real.log 2)⁻¹ : ℝ) : EReal) := by
  pointwise [k0_pay5]
  rw [log2e]

/-- The maximum after a block at an index. -/
theorem pay14_apply (L : FVec Ideal S256x1024 .f32) (M : Vec Ideal S8x1024 .f32) (r : Fin 8) (q : Fin 1024) :
    k0_pay14 L M (ix2 r q) = max (M (ix2 r q) : EReal) (Finset.univ.sup fun a : Fin 32 => (L (ix2 ⟨a.val * 8 + r.val, by omega⟩ q) : EReal)) := by
  pointwise [k0_pay14, k0_pay13, k0_pay12]
  rw [ofBits_neg_inf]
  rfl

/-- The sum after a block at an index. -/
theorem pay15_apply (L : FVec Ideal S256x1024 .f32) (M S : Vec Ideal S8x1024 .f32) (r : Fin 8) (q : Fin 1024) :
    k0_pay15 L M S (ix2 r q)
      = (S (ix2 r q) : EReal) * Ideal.exp2 ((M (ix2 r q) : EReal) - max (M (ix2 r q) : EReal) (Finset.univ.sup fun a : Fin 32 => (L (ix2 ⟨a.val * 8 + r.val, by omega⟩ q) : EReal)))
        + ∑ a : Fin 32, Ideal.exp2 ((L (ix2 ⟨a.val * 8 + r.val, by omega⟩ q) : EReal) - max (M (ix2 r q) : EReal) (Finset.univ.sup fun a : Fin 32 => (L (ix2 ⟨a.val * 8 + r.val, by omega⟩ q) : EReal))) := by
  pointwise [k0_pay15, k0_pay13, k0_pay12]
  rw [ofBits_neg_inf]
  rfl

/-- The log-sum-exp in base two of the eight sublanes. -/
theorem pay2_apply (M S : Vec Ideal S8x1024 .f32) (r : Fin 8) (q : Fin 1024) :
    k0_pay2 M S M (ix2 r q)
      = (Finset.univ.sup fun x : Fin 8 => (M (ix2 x q) : EReal))
        + Ideal.log (∑ x : Fin 8, (S (ix2 x q) : EReal) * Ideal.exp2 ((M (ix2 x q) : EReal) - Finset.univ.sup fun x : Fin 8 => (M (ix2 x q) : EReal)))
          * (((Real.log 2)⁻¹ : ℝ) : EReal) := by
  pointwise [k0_pay2]
  rw [ofBits_neg_inf, log2e]
  rfl

/-- The logit of vocabulary entry `v` and token `q`: the product of the codes, times both scales. -/
def logit (ws : Vec Ideal S250 .f32) (w : Vec Ideal Cert.FwdRefIdeal.S32000x1280 .fp8e4m3) (h : Vec Ideal S1280x1024 .fp8e4m3) (hs : Vec Ideal S8x1024 .f32) (q : Fin 1024) (v : Fin 32000) : EReal :=
  (∑ k : Fin 1280, (w (ix2 v k) : EReal) * h (ix2 k q)) * hs (ix2 0 q) * ws (ix1 ⟨v.val / 128, by omega⟩)

variable (ws : Vec Ideal S250 .f32) (w : Vec Ideal Cert.FwdRefIdeal.S32000x1280 .fp8e4m3) (h : Vec Ideal S1280x1024 .fp8e4m3) (hs : Vec Ideal S8x1024 .f32)

/-- The reference's logits. -/
theorem ref_logit (v : Fin 32000) (q : Fin 1024) :
    Cert.FwdRefIdeal.Gen.k0_pay1 w h ws (View.ld hs Cert.FwdRefIdeal.Gen.r0_3) (ix2 v q) = logit ws w h hs q v := by
  pointwise [Cert.FwdRefIdeal.Gen.k0_pay1, logit]

/-- The reference's first result. -/
theorem ref_l2 (v : Fin 32000) (q : Fin 1024) :
    Cert.FwdRefIdeal.Gen.k0_pay2 w h ws (View.ld hs Cert.FwdRefIdeal.Gen.r0_3) (ix2 v q) = logit ws w h hs q v * (((Real.log 2)⁻¹ : ℝ) : EReal) := by
  rw [← ref_logit]
  pointwise [Cert.FwdRefIdeal.Gen.k0_pay2]
  rw [log2e_ref]

end Cert.FwdIdeal.Value

end
-- ==== Proof.FwdRef.lean ====
module

public import proofs.«01_k».proof.Proof.Gen.FwdIdeal.Value
public import proofs.«01_k».proof.Proof.FwdPoint
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

open Cert.FwdRefIdeal (S32000x1024 S1024)
open Cert.FwdRefIdeal.Gen (reduces_S32000x1024_S1024 broadcasts_S1x1024_S32000x1024)

/-- The largest logit of a token, at an index. -/
theorem ref_max (X : FVec Ideal S32000x1024 .f32) (q : Fin 1024) :
    multiReduction .maximumf [0] S1024 X 0xFF800000#32 reduces_S32000x1024_S1024 (.inl rfl) rfl (ix1 q) = Finset.univ.sup fun v : Fin 32000 => (X (ix2 v q) : EReal) := by
  pointwise []
  rw [ofBits_neg_inf]
  exact Lse.fold_max_eq_sup _

/-- The log-sum-exp in terms of any per-token shift, at an index. -/
theorem ref_lse_of (X : FVec Ideal S32000x1024 .f32) (m : FVec Ideal S1024 .f32) (r : Fin 8) (q : Fin 1024) :
    broadcastTo Cert.FwdRefIdeal.S8x1024 (shapeCast Cert.FwdRefIdeal.S1x1024 (mulf (addf (shapeCast Cert.FwdRefIdeal.S1x1024 m Cert.FwdRefIdeal.Gen.shapeCasts_S1024_S1x1024)
        (log (shapeCast Cert.FwdRefIdeal.S1x1024 (multiReduction .add [0] S1024 (exp (subf X (broadcastTo S32000x1024 (shapeCast Cert.FwdRefIdeal.S1x1024 m Cert.FwdRefIdeal.Gen.shapeCasts_S1024_S1x1024) broadcasts_S1x1024_S32000x1024))) 0x00000000#32 reduces_S32000x1024_S1024 (.inl rfl) rfl) Cert.FwdRefIdeal.Gen.shapeCasts_S1024_S1x1024)))
      (broadcast Cert.FwdRefIdeal.S1x1024 (Named.named Cert.FwdRefIdeal.κ "log2e" 0x3FB8AA3B#32 : Ideal .f32))) Cert.FwdRefIdeal.Gen.shapeCasts_S1x1024_S1x1024) Cert.FwdRefIdeal.Gen.broadcasts_S1x1024_S8x1024 (ix2 r q)
      = ((m (ix1 q) : EReal) + Ideal.log (∑ v : Fin 32000, Ideal.exp ((X (ix2 v q) : EReal) - m (ix1 q)))) * (((Real.log 2)⁻¹ : ℝ) : EReal) := by
  pointwise []
  rw [log2e_ref]

variable (ws : Vec Ideal S250 .f32) (w : Vec Ideal Cert.FwdRefIdeal.S32000x1280 .fp8e4m3) (h : Vec Ideal S1280x1024 .fp8e4m3) (hs : Vec Ideal S8x1024 .f32)

/-- The reference's second result. -/
theorem ref_lse (r : Fin 8) (q : Fin 1024) :
    Cert.FwdRefIdeal.Gen.k0_pay3 w h ws (View.ld hs Cert.FwdRefIdeal.Gen.r0_3) (ix2 r q)
      = (Finset.univ.sup (logit ws w h hs q) + Ideal.log (∑ v, Ideal.exp (logit ws w h hs q v - Finset.univ.sup (logit ws w h hs q)))) * (((Real.log 2)⁻¹ : ℝ) : EReal) := by
  have hl : logit ws w h hs q = fun v => Cert.FwdRefIdeal.Gen.k0_pay1 w h ws (View.ld hs Cert.FwdRefIdeal.Gen.r0_3) (ix2 v q) := funext fun v => (ref_logit ws w h hs v q).symm
  rw [hl]
  unfold Cert.FwdRefIdeal.Gen.k0_pay3
  generalize Cert.FwdRefIdeal.Gen.k0_pay1 w h ws (View.ld hs Cert.FwdRefIdeal.Gen.r0_3) = X
  rw [← ref_max X q]
  exact ref_lse_of X _ r q

end Cert.FwdIdeal.Value

end
-- ==== Proof.FwdValue.lean ====
module

public import proofs.«01_k».proof.Proof.Gen.FwdIdeal.Value
public import proofs.«01_k».proof.Proof.FwdRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

variable (m : (ℓ : Loc nD τ sig) → Buf (Elt Ideal) ℓ) (ρ : Dev nD → PrngReg)

/-- The index maps of the five windows at a grid point. -/
theorem idx : ∀ t : Fin cfg0.N, win0_0.index t = ![0] ∧ win0_1.index t = ![t.val, 0] ∧ win0_2.index t = ![0, 0] ∧ win0_3.index t = ![0, 0] ∧ win0_4.index t = ![t.val, 0] ∧ win0_5.index t = ![0, 0] ∧ (grid0.coords t 0).val = t.val :=
  (by decide +kernel : ∀ t : Fin grid0.N, _)

/-- The logits of token `q` over the argument arrays. -/
abbrev lg (c : Dev nD) (q : Fin 1024) (v : Fin 32000) : EReal :=
  logit (m ((c : Thread nD τ).loc main_arg0)) (m ((c : Thread nD τ).loc main_arg1)) (m ((c : Thread nD τ).loc main_arg2)) (m ((c : Thread nD τ).loc main_arg3)) q v

/-- The blocks of logits at a grid point. -/
abbrev blkAt (c : Dev nD) (t : Fin cfg0.N) (r : Fin 5) : FVec Ideal S256x1024 .f32 :=
  blkOf (grid0.coords t) (iblk m c 0 t) (iblk m c 1 t) (iblk m c 2 t) (iblk m c 3 t) r

/-- A load of one number reads the entry at its offset. -/
theorem ld_one (x : Vec Ideal S250 .f32) (off : Fin 1 → ℕ) (h : ∀ a, off a + S1.size a ≤ S250.size a) (n : Fin 250) (hn : off 0 = n.val) :
    View.ld x (Rect.unit off S1.size h) (Shape.Idx.first one_pos_S1) = x (ix1 n) := by
  refine congrArg x (funext fun a => Fin.ext ?_)
  match a with
  | ⟨0, _⟩ => show off 0 + 1 * 0 = n.val; omega

/-- The weights of block `r` of a grid point. -/
theorem ld_w (c : Dev nD) (t : Fin cfg0.N) (r : Fin 5) (p : Fin 256) (k : Fin 1280) :
    View.ld (iblk m c 1 t) (Rect.unit ![256 * r.val, 0] S256x1280.size (inb_rows r)) (ix2 p k)
      = m ((c : Thread nD τ).loc main_arg1) (ix2 ⟨1280 * t.val + 256 * r.val + p.val, by have := lt_of_lt_of_eq t.isLt N_0; omega⟩ k) := by
  blk_ext [View.ld, iblk, V, idx t]
  · show t.val * 1280 + (256 * r.val + 1 * p.val) = _; omega
  · show 0 + 1 * k.val = k.val; omega

/-- The hidden codes at a grid point. -/
theorem ld_h (c : Dev nD) (t : Fin cfg0.N) (k : Fin 1280) (q : Fin 1024) :
    iblk m c 2 t (ix2 k q) = m ((c : Thread nD τ).loc main_arg2) (ix2 k q) := by
  blk_ext [iblk, V, idx t]

/-- The token scales at a grid point. -/
theorem ld_hs (c : Dev nD) (t : Fin cfg0.N) (q : Fin 1024) :
    View.ld (iblk m c 3 t) (Rect.unit ![0, 0] S1x1024.size inb_S8x1024_S1x1024_0_0) (ix2 0 q) = m ((c : Thread nD τ).loc main_arg3) (ix2 0 q) := by
  blk_ext [View.ld, iblk, V, idx t]
  · rfl
  · show 0 + 1 * q.val = q.val; omega

/-- The weight scales at a grid point. -/
theorem ld_ws (c : Dev nD) (t : Fin cfg0.N) (n : Fin 250) :
    iblk m c 0 t (ix1 n) = m ((c : Thread nD τ).loc main_arg0) (ix1 n) := by
  blk_ext [iblk, V, idx t]

/-- A block of logits at an index. -/
theorem blkAt_apply (c : Dev nD) (t : Fin cfg0.N) (r : Fin 5) (p : Fin 256) (q : Fin 1024) :
    blkAt m c t r (ix2 p q) = lg m c q ⟨1280 * t.val + 256 * r.val + p.val, by have := lt_of_lt_of_eq t.isLt N_0; omega⟩ * (((Real.log 2)⁻¹ : ℝ) : EReal) := by
  have ht := lt_of_lt_of_eq t.isLt N_0
  unfold blkAt blkOf
  rw [pay11_apply, pay5_apply]
  unfold lg logit
  obtain ⟨-, -, -, -, -, -, hc⟩ := idx t
  have h0 : k0_off1 (grid0.coords t) (BitVec.ofNat 32 (2 * r.val)) 0#32 0 = 10 * t.val + 2 * r.val := by
    rw [show k0_off1 (grid0.coords t) (BitVec.ofNat 32 (2 * r.val)) 0#32 = _ from k0_off1_eq (grid0.coords t) r 0, ← hc]; rfl
  have h1 : k0_off1 (grid0.coords t) (BitVec.ofNat 32 (2 * r.val)) 1#32 0 = 10 * t.val + 2 * r.val + 1 := by
    rw [show k0_off1 (grid0.coords t) (BitVec.ofNat 32 (2 * r.val)) 1#32 = _ from k0_off1_eq (grid0.coords t) r 1, ← hc]; rfl
  rw [ld_one _ _ _ ⟨10 * t.val + 2 * r.val, by omega⟩ h0, ld_one _ _ _ ⟨10 * t.val + 2 * r.val + 1, by omega⟩ h1, ld_hs, ld_ws, ld_ws]
  have hd : (∑ k : Fin 1280, (fun x y : EReal => x * y) (View.ld (iblk m c 1 t) (Rect.unit ![256 * r.val, 0] S256x1280.size (inb_rows r)) (ix2 p k)) (iblk m c 2 t (ix2 k q)))
      = ∑ k : Fin 1280, (fun x y : EReal => x * y) (m ((c : Thread nD τ).loc main_arg1) (ix2 ⟨1280 * t.val + 256 * r.val + p.val, by omega⟩ k)) (m ((c : Thread nD τ).loc main_arg2) (ix2 k q)) :=
    Finset.sum_congr rfl fun k _ => congrArg₂ (fun x y : EReal => x * y) (ld_w m c t r p k) (ld_h m c t k q)
  refine (congrArg (· * _) hd).trans ?_
  have hs : ∀ hlt, (if p.val < 128 then m ((c : Thread nD τ).loc main_arg0) (ix1 (⟨10 * t.val + 2 * r.val, by omega⟩ : Fin 250)) else m ((c : Thread nD τ).loc main_arg0) (ix1 (⟨10 * t.val + 2 * r.val + 1, by omega⟩ : Fin 250)))
      = m ((c : Thread nD τ).loc main_arg0) (ix1 (⟨(1280 * t.val + 256 * r.val + p.val) / 128, hlt⟩ : Fin 250)) := by
    intro hlt
    split_ifs with hp
    · exact congrArg (fun n : Fin 250 => m ((c : Thread nD τ).loc main_arg0) (ix1 n)) (Fin.ext (by show 10 * t.val + 2 * r.val = _ / 128; omega))
    · exact congrArg (fun n : Fin 250 => m ((c : Thread nD τ).loc main_arg0) (ix1 n)) (Fin.ext (by show 10 * t.val + 2 * r.val + 1 = _ / 128; omega))
  rw [hs (by omega)]
  ac_rfl

end Cert.FwdIdeal.Value

end
-- ==== Proof.FwdOut.lean ====
module

public import proofs.«01_k».proof.Proof.Gen.FwdIdeal.Value
public import proofs.«01_k».proof.Proof.FwdValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

/-- Five blocks of 256 rows, one below the other. -/
def rows (L : Fin 5 → FVec Ideal S256x1024 .f32) : FVec Ideal S1280x1024 .f32 := fun y =>
  L ⟨(y 0).val / 256, by have : (y 0).val < 1280 := (y 0).isLt; omega⟩ (ix2 ⟨(y 0).val % 256, by omega⟩ ⟨(y 1).val, (y 1).isLt⟩)

/-- The stacked blocks inside block `k`. -/
theorem rows_eq (L : Fin 5 → FVec Ideal S256x1024 .f32) (k : Fin 5) (x : S256x1024.Idx) (y : S1280x1024.Idx) (h0 : (y 0).val = 256 * k.val + (x 0).val) (h1 : (y 1).val = (x 1).val) :
    L k x = rows L y := by
  have hx : (x 0).val < 256 := (x 0).isLt
  unfold rows
  rw [show (⟨(y 0).val / 256, by have : (y 0).val < 1280 := (y 0).isLt; omega⟩ : Fin 5) = k from Fin.ext (by simp only; omega)]
  refine congrArg (L k) (funext fun a => Fin.ext ?_)
  match a with
  | ⟨0, _⟩ => show (x 0).val = (y 0).val % 256; omega
  | ⟨1, _⟩ => exact h1.symm

section Out

variable (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .fp8e4m3) (harg3 : arg3.IsWhole) (arg4 : Memref sig .tc .vmem S8x1024 .f32) (harg4 : arg4.IsWhole) (arg5 : Memref sig .tc .vmem S1280x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole)
    (x0 : Vec Ideal S250 .f32) (x1 : Vec Ideal S1280x1280 .fp8e4m3) (x2 : Vec Ideal S1280x1024 .fp8e4m3) (x3 : Vec Ideal S8x1024 .f32) (xs0 : Vec Ideal S8x1024 .f32) (xs1 : Vec Ideal S8x1024 .f32)

/-- Case A: the logits stored at the point. -/
theorem out_A_4 (hc0 : cond0_0 i) (hc1 : ¬cond0_1 i) (y : S1280x1024.Idx) : out0_A_4 (F := Ideal) c i arg1 harg1 arg2 harg2 arg3 harg3 arg4 harg4 arg5 harg5 arg6 harg6 arg7 harg7 arg8 harg8 hc0 hc1 x0 x1 x2 x3 y = rows (blkOf i x0 x1 x2 x3) y := by
  frame_out
  canon_tiles x h
  · exact rows_eq (blkOf i x0 x1 x2 x3) 4 x y (by omega) (by omega)
  · exact rows_eq (blkOf i x0 x1 x2 x3) 3 x y (by omega) (by omega)
  · exact rows_eq (blkOf i x0 x1 x2 x3) 2 x y (by omega) (by omega)
  · exact rows_eq (blkOf i x0 x1 x2 x3) 1 x y (by omega) (by omega)
  · exact rows_eq (blkOf i x0 x1 x2 x3) 0 x y (by omega) (by omega)

/-- Case B: the logits stored at the point. -/
theorem out_B_4 (hc0 : ¬cond0_0 i) (hc1 : ¬cond0_1 i) (y : S1280x1024.Idx) : out0_B_4 (F := Ideal) c i arg1 harg1 arg2 harg2 arg3 harg3 arg4 harg4 arg5 harg5 arg6 harg6 arg7 harg7 arg8 harg8 hc0 hc1 x0 x1 x2 x3 xs0 xs1 y = rows (blkOf i x0 x1 x2 x3) y := by
  frame_out
  canon_tiles x h
  · exact rows_eq (blkOf i x0 x1 x2 x3) 4 x y (by omega) (by omega)
  · exact rows_eq (blkOf i x0 x1 x2 x3) 3 x y (by omega) (by omega)
  · exact rows_eq (blkOf i x0 x1 x2 x3) 2 x y (by omega) (by omega)
  · exact rows_eq (blkOf i x0 x1 x2 x3) 1 x y (by omega) (by omega)
  · exact rows_eq (blkOf i x0 x1 x2 x3) 0 x y (by omega) (by omega)

/-- Case C: the logits stored at the point. -/
theorem out_C_4 (hc0 : ¬cond0_0 i) (hc1 : cond0_1 i) (y : S1280x1024.Idx) : out0_C_4 (F := Ideal) c i arg1 harg1 arg2 harg2 arg3 harg3 arg4 harg4 arg5 harg5 arg6 harg6 arg7 harg7 arg8 harg8 hc0 hc1 x0 x1 x2 x3 xs0 xs1 y = rows (blkOf i x0 x1 x2 x3) y := by
  frame_out
  canon_tiles x h
  · exact rows_eq (blkOf i x0 x1 x2 x3) 4 x y (by omega) (by omega)
  · exact rows_eq (blkOf i x0 x1 x2 x3) 3 x y (by omega) (by omega)
  · exact rows_eq (blkOf i x0 x1 x2 x3) 2 x y (by omega) (by omega)
  · exact rows_eq (blkOf i x0 x1 x2 x3) 1 x y (by omega) (by omega)
  · exact rows_eq (blkOf i x0 x1 x2 x3) 0 x y (by omega) (by omega)

end Out

end Cert.FwdIdeal.Value

end
-- ==== Proof.FwdHolds.lean ====
module

public import proofs.«01_k».proof.Proof.Gen.FwdIdeal.Value
public import proofs.«01_k».proof.Proof.FwdOut
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

variable (m : (ℓ : Loc nD τ sig) → Buf (Elt Ideal) ℓ) (ρ : Dev nD → PrngReg)

/-- The running maximum starts at minus infinity. -/
theorem pay3_apply (r : Fin 8) (q : Fin 1024) : k0_pay3 (F := Ideal) (ix2 r q) = (⊥ : EReal) := by
  pointwise [k0_pay3]
  exact ofBits_neg_inf

/-- The running sum starts at zero. -/
theorem pay4_apply (r : Fin 8) (q : Fin 1024) : k0_pay4 (F := Ideal) (ix2 r q) = (0 : EReal) := by
  pointwise [k0_pay4]

/-- The base-two logits of token `q` over the argument arrays. -/
abbrev l2 (c : Dev nD) (q : Fin 1024) (v : Fin 32000) : EReal := lg m c q v * (((Real.log 2)⁻¹ : ℝ) : EReal)

/-- The scratch after `n` blocks of a point, from what it held before the point. -/
theorem holds_blocks (c : Dev nD) (t : Fin cfg0.N) (M S : Vec Ideal S8x1024 .f32)
    (h : ∀ (r : Fin 8) (q : Fin 1024), Lse.Holds (l2 m c q) (5 * t.val) r (M (ix2 r q)) (S (ix2 r q))) :
    ∀ n, n ≤ 5 → ∀ (r : Fin 8) (q : Fin 1024), Lse.Holds (l2 m c q) (5 * t.val + n) r (maxOf (blkAt m c t) M n (ix2 r q)) (sumOf (blkAt m c t) M S n (ix2 r q)) := by
  have ht := lt_of_lt_of_eq t.isLt N_0
  intro n
  induction n with
  | zero => intro _ r q; exact h r q
  | succ n ih =>
    intro hn r q
    show Lse.Holds (l2 m c q) (5 * t.val + n + 1) r (k0_pay14 (blkAt m c t (Fin.ofNat 5 n)) (maxOf (blkAt m c t) M n) (ix2 r q)) (k0_pay15 (blkAt m c t (Fin.ofNat 5 n)) (maxOf (blkAt m c t) M n) (sumOf (blkAt m c t) M S n) (ix2 r q))
    rw [pay14_apply, pay15_apply]
    refine Lse.holds_succ (l2 m c q) (5 * t.val + n) (by omega) r (ih (by omega) r q) _ fun a => ?_
    rw [blkAt_apply]
    refine congrArg (l2 m c q) (Fin.ext ?_)
    show 1280 * t.val + 256 * (n % 5) + (a.val * 8 + r.val) = 256 * (5 * t.val + n) + (8 * a.val + r.val)
    omega

/-- The scratch after point `n`. -/
theorem holds_point (c : Dev nD) : ∀ (n : ℕ) (hn : n < cfg0.N) (r : Fin 8) (q : Fin 1024),
    Lse.Holds (l2 m c q) (5 * (n + 1)) r ((outsAt0 m c n hn).2.2.1 (ix2 r q)) ((outsAt0 m c n hn).2.2.2 (ix2 r q)) := by
  intro n
  induction n with
  | zero =>
    intro hn r q
    rw [outsAt0_zero, stAt0_A m c ⟨0, hn⟩ _ (Nat.zero_mod _) (by show ¬(0 % 25 = 24); omega)]
    dsimp only
    rw [sout_A_0, sout_A_1]
    exact holds_blocks m c ⟨0, hn⟩ _ _ (fun r q => by rw [pay3_apply, pay4_apply]; exact Lse.holds_zero _ _) 5 le_rfl r q
  | succ n ih =>
    intro hn r q
    have hN := lt_of_lt_of_eq hn N_0
    rw [outsAt0_succ]
    by_cases h : (n + 1) % 25 = 24
    · rw [stAt0_C m c ⟨n + 1, hn⟩ _ (by show ¬((n + 1) % 25 = 0); omega) h]
      dsimp only
      rw [sout_C_0, sout_C_1]
      exact holds_blocks m c ⟨n + 1, hn⟩ _ _ (ih _) 5 le_rfl r q
    · rw [stAt0_B m c ⟨n + 1, hn⟩ _ (by show ¬((n + 1) % 25 = 0); omega) h]
      dsimp only
      rw [sout_B_0, sout_B_1]
      exact holds_blocks m c ⟨n + 1, hn⟩ _ _ (ih _) 5 le_rfl r q

/-- The log-sum-exp the last point stores. -/
theorem lse_point (c : Dev nD) (hn : 23 + 1 < cfg0.N) (r : Fin 8) (q : Fin 1024) :
    (outsAt0 m c (23 + 1) hn).2.1 (ix2 r q)
      = (Finset.univ.sup (lg m c q) + Ideal.log (∑ v, Ideal.exp (lg m c q v - Finset.univ.sup (lg m c q)))) * (((Real.log 2)⁻¹ : ℝ) : EReal) := by
  rw [outsAt0_succ, stAt0_C m c ⟨23 + 1, hn⟩ _ (by show ¬((23 + 1) % 25 = 0); omega) (by show (23 + 1) % 25 = 24; omega)]
  dsimp only
  rw [out_C_5, pay2_apply]
  obtain ⟨h1, h2⟩ := Lse.holds_all (l2 m c q) _ _ fun r => holds_blocks m c ⟨23 + 1, hn⟩ _ _ (holds_point m c 23 _) 5 le_rfl r q
  exact (congrArg₂ (fun x y : EReal => x + Ideal.log y * (((Real.log 2)⁻¹ : ℝ) : EReal)) h1 h2).trans (Lse.lse_base (lg m c q) rfl)

/-- The logits a point stores. -/
theorem l2_point (c : Dev nD) : ∀ (n : ℕ) (hn : n < cfg0.N) (y : S1280x1024.Idx), (outsAt0 m c n hn).1 y = rows (blkAt m c ⟨n, hn⟩) y := by
  intro n
  cases n with
  | zero =>
    intro hn y
    rw [outsAt0_zero, stAt0_A m c ⟨0, hn⟩ _ (Nat.zero_mod _) (by show ¬(0 % 25 = 24); omega)]
    dsimp only
    rw [out_A_4]
  | succ n =>
    intro hn y
    have hN := lt_of_lt_of_eq hn N_0
    rw [outsAt0_succ]
    by_cases h : (n + 1) % 25 = 24
    · rw [stAt0_C m c ⟨n + 1, hn⟩ _ (by show ¬((n + 1) % 25 = 0); omega) h]
      dsimp only
      rw [out_C_4]
    · rw [stAt0_B m c ⟨n + 1, hn⟩ _ (by show ¬((n + 1) % 25 = 0); omega) h]
      dsimp only
      rw [out_B_4]

end Cert.FwdIdeal.Value

end
-- ==== Proof.FwdAlgebraic.lean ====
module

public import proofs.«01_k».proof.Proof.Gen.FwdIdeal.Value
public import proofs.«01_k».proof.Proof.FwdHolds
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

variable (m : (ℓ : Loc nD τ sig) → Buf (Elt Ideal) ℓ) (ρ : Dev nD → PrngReg)

/-- Two arrays of rank two are equal if they agree at each pair of coordinates. -/
theorem ext_ix2 {A B : ℕ} {α : Type} (f g : (⟨2, ![A, B]⟩ : Shape).Idx → α) (h : ∀ (a : Fin A) (b : Fin B), f (ix2 a b) = g (ix2 a b)) : f = g := by
  funext i
  have hi : i = ix2 (i 0) (i 1) := funext fun a => by match a with | ⟨0, _⟩ => rfl | ⟨1, _⟩ => rfl
  rw [hi]
  exact h _ _

/-- The first result, at an index. -/
theorem G4_apply (c : Dev nD) (v : Fin 32000) (q : Fin 1024) : G4 m c (ix2 v q) = l2 m c q v := by
  have hp : pt4Of (ix2 v q) = v.val / 1280 := by
    show 1 * (v.val / 1280 - 0) + 1 * (q.val / 1024 - 0) = _
    omega
  have hlt : pt4Of (ix2 v q) < cfg0.N := by rw [hp]; exact lt_of_lt_of_eq (by omega) N_0.symm
  unfold G4
  rw [dif_pos hlt, ← outsAt0_sweep m c _ hlt, l2_point]
  unfold rows
  rw [blkAt_apply]
  refine congrArg₂ (fun q v => l2 m c q v) (Fin.ext ?_) (Fin.ext ?_)
  · show q.val % 1024 = q.val; omega
  · show 1280 * pt4Of (ix2 v q) + 256 * (v.val % 1280 / 256) + v.val % 1280 % 256 = v.val
    rw [hp]; omega

/-- The first result is the reference's: the base-two logits. -/
theorem G4_eq (c : Dev nD) : G4 m c = Cert.FwdRefIdeal.Gen.k0_pay2 (m ((c : Thread nD τ).loc main_arg1)) (m ((c : Thread nD τ).loc main_arg2)) (m ((c : Thread nD τ).loc main_arg0)) (View.ld (m ((c : Thread nD τ).loc main_arg3)) Cert.FwdRefIdeal.Gen.r0_3) := by
  refine ext_ix2 _ _ fun v q => ?_
  exact (G4_apply m c v q).trans (ref_l2 _ _ _ _ v q).symm

/-- The second result is the reference's: the log-sum-exp in base two. -/
theorem G5_eq (c : Dev nD) : G5 m c = Cert.FwdRefIdeal.Gen.k0_pay3 (m ((c : Thread nD τ).loc main_arg1)) (m ((c : Thread nD τ).loc main_arg2)) (m ((c : Thread nD τ).loc main_arg0)) (View.ld (m ((c : Thread nD τ).loc main_arg3)) Cert.FwdRefIdeal.Gen.r0_3) := by
  refine ext_ix2 _ _ fun r q => ?_
  rw [G5_last, ← outsAt0_sweep m c 24 (lt_of_lt_of_eq (by decide) N_0.symm)]
  exact (lse_point m c _ r q).trans (ref_lse _ _ _ _ r q).symm

end Cert.FwdIdeal.Value

namespace Cert.FwdAlgebraic

/-- The forward call's two results are the reference's, over the extended reals. -/
theorem algebraic : Cert.algebraic_FwdIdeal_FwdRefIdeal := by
  intro m ρ m' ρ' _ hagree
  refine ⟨_, _, Cert.FwdIdeal.Value.run (F := Ideal) m ρ, ?_⟩
  refine (θ_run Cert.FwdRefIdeal.defs _ _).mono (fun _ h c => ⟨(h c).1.trans ?_, (h c).2.1.trans ?_, (h c).2.2⟩) (Cert.FwdRefIdeal.Value.run (F := Ideal) m' ρ')
  · rw [(hagree c).1, (hagree c).2.1, (hagree c).2.2.1, (hagree c).2.2.2]
    exact (Cert.FwdIdeal.Value.G4_eq m c).symm
  · rw [(hagree c).1, (hagree c).2.1, (hagree c).2.2.1, (hagree c).2.2.2]
    exact (Cert.FwdIdeal.Value.G5_eq m c).symm

end Cert.FwdAlgebraic

end
-- ==== Proof.BwdRuns.lean ====
/- What the runs of the backward call's frame share: @main up to its region, the arrays' contents there, each
   window's block at a point, the branch conditions in closed form, where windows are idle, the memrefs.
   Written after the text the generator writes for kernels of this shape; it differs from it in that output window
   12, whose array is no result of the program, is stated nowhere. -/
module

public import proofs.«01_k».proof.Proof.Gen.BwdIdeal.Launch
public import proofs.«01_k».proof.Proof.Gen.BwdIdeal.Skeleton
public import proofs.«01_k».proof.Proof.Gen.BwdIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_BwdIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_1, k0_cond2, e0]
    word_cmp
   : ∀ t : Fin grid0.N, cond0_1 (grid0.coords t) ↔ t.val % 25 = 24)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- At the points of case A the printed configuration (`Cfg.idle`) calls output 11 idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel

/-! ## The kernel body on any staging memrefs: a subtype the run finds -/

/-- One staging buffer of output window 7, through which its contents are stated (`View.read_writes_of_cover`: the
    choice does not matter). -/
abbrev VO0_7 : View sig .tc .vmem S1280x1280 .f32 := (Memref.whole cc0_stg7_0 : Memref sig .tc .vmem S1280x1280 .f32).view
/-- One staging buffer of output window 8, through which its contents are stated (`View.read_writes_of_cover`: the
    choice does not matter). -/
abbrev VO0_8 : View sig .tc .vmem S1x1024x1280 .fp8e5m2 := (Memref.whole cc0_stg8_0 : Memref sig .tc .vmem S1x1024x1280 .fp8e5m2).view
/-- One staging buffer of output window 9, through which its contents are stated (`View.read_writes_of_cover`: the
    choice does not matter). -/
abbrev VO0_9 : View sig .tc .vmem S1x10x1024 .f32 := (Memref.whole cc0_stg9_0 : Memref sig .tc .vmem S1x10x1024 .f32).view
/-- One staging buffer of output window 10, through which its contents are stated (`View.read_writes_of_cover`: the
    choice does not matter). -/
abbrev VO0_10 : View sig .tc .vmem S1280x1024 .f32 := (Memref.whole cc0_stg10_0 : Memref sig .tc .vmem S1280x1024 .f32).view
/-- One staging buffer of output window 11, through which its contents are stated (`View.read_writes_of_cover`: the
    choice does not matter). -/
abbrev VO0_11 : View sig .tc .vmem S1x1024 .f32 := (Memref.whole cc0_stg11_0 : Memref sig .tc .vmem S1x1024 .f32).view
/-- Each window's current staging memref at point `t`, spelled as the pipeline passes it (`bodyAt0`), and its wholeness. -/
abbrev ms0_0 (t : Fin cfg0.N) : Memref sig .tc .smem S250 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1280 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1280 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x10x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1280x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1280x1024 .bf16 := Memref.whole cc0_scratch0
abbrev scM0_1 : Memref sig .tc .vmem S8x1024 .f32 := Memref.whole cc0_scratch1
/-- The scratch `arg15` the kernel carries between points, as a view: what it holds is stated through it. -/
abbrev VS0_1 : View sig .tc .vmem S8x1024 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.BwdIdeal.Gen

end
-- ==== Proof.BwdRunA.lean ====
/- The body of the backward call run at the first grid point (its accumulators are reset there). -/
module

public import proofs.«01_k».proof.Proof.BwdRuns

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1320000 in
/-- What the body's stores leave in each output's staging memref, as pieces (last first) IN CASE A (`scf.if` 0 taken, `scf.if` 1 not taken: points 0), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12) at anything, handed back at some contents nothing names. -/
noncomputable def kernelRun0_A (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) :
    Σ' (L7 : List (View.Piece (Elt F) S1280x1280 .f32)), Σ' (L8 : List (View.Piece (Elt F) S1x1024x1280 .fp8e5m2)), Σ' (L9 : List (View.Piece (Elt F) S1x10x1024 .f32)), Σ' (L10 : List (View.Piece (Elt F) S1280x1024 .f32)), Σ' (L11 : List (View.Piece (Elt F) S1x1024 .f32)), Σ' (LS1 : List (View.Piece (Elt F) S8x1024 .f32)), { LT0 : List (View.Piece (Elt F) S1280x1024 .bf16) //
      ∀ (xi11 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xi11 ∗ (∃ d, owns (c : Thread nD τ) arg13 fullShare d) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], ?_, ?_, fun xi11 E K => ?run⟩
  case run =>
    simp only [cc0_bwd_eq_skeleton]; unfold cc0_bwd_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]
    · iexists _; isplitr; · ipureintro; exact harg12.read_unread _
      iexact H11
    isplitl [H12]
    · iexists _, _; isplitr; swap; · iexact H12
      ipureintro; rfl
    isplitl [HS0]; · iexists _; iexact HS0
    iexists _; iexact HS1

end Cert.BwdIdeal.Gen

end
-- ==== Proof.BwdRunB.lean ====
/- The body of the backward call run at a grid point that is neither the first nor the last. -/
module

public import proofs.«01_k».proof.Proof.BwdRunA

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1300000 in
/-- What the body's stores leave in each output's staging memref, as pieces (last first) IN CASE B (`scf.if` 0 not taken, `scf.if` 1 not taken: points 1, 2, … 23: 23 of 25), WITH the
    proof that on whole staging memrefs — the inputs' at their contents, the outputs it reads before covering (10) at their running contents `xo·`, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12) at anything, handed back at some contents nothing names. -/
noncomputable def kernelRun0_B (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) :
    Σ' (L7 : List (View.Piece (Elt F) S1280x1280 .f32)), Σ' (L8 : List (View.Piece (Elt F) S1x1024x1280 .fp8e5m2)), Σ' (L9 : List (View.Piece (Elt F) S1x10x1024 .f32)), Σ' (L10 : List (View.Piece (Elt F) S1280x1024 .f32)), Σ' (L11 : List (View.Piece (Elt F) S1x1024 .f32)), Σ' (LS1 : List (View.Piece (Elt F) S8x1024 .f32)), { LT0 : List (View.Piece (Elt F) S1280x1024 .bf16) //
      ∀ (xi11 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ owns (c : Thread nD τ) arg12 fullShare xi11 ∗ (∃ d, owns (c : Thread nD τ) arg13 fullShare d) ∗ (∃ d, owns (c : Thread nD τ) arg14 fullShare d) ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xi11 ∗ (∃ d, owns (c : Thread nD τ) arg13 fullShare d) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], ?_, ?_, fun xi11 E K => ?run⟩
  case run =>
    simp only [cc0_bwd_eq_skeleton]; unfold cc0_bwd_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%d12, %f12, -, H12⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10; obtain rfl := harg12.eq_unread hf11; obtain rfl := harg15.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]
    · iexists _; isplitr; · ipureintro; exact harg12.read_unread _
      iexact H11
    isplitl [H12]
    · iexists _, _; isplitr; swap; · iexact H12
      ipureintro; rfl
    isplitl [HS0]; · iexists _; iexact HS0
    iexists _; iexact HS1

end Cert.BwdIdeal.Gen

end
-- ==== Proof.BwdRunC.lean ====
/- The body of the backward call run at the last grid point (the token losses are stored there). -/
module

public import proofs.«01_k».proof.Proof.BwdRunB

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1340000 in
/-- What the body's stores leave in each output's staging memref, as pieces (last first) IN CASE C (`scf.if` 0 not taken, `scf.if` 1 taken: points 24), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12) at anything, handed back at some contents nothing names. -/
noncomputable def kernelRun0_C (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) :
    Σ' (L7 : List (View.Piece (Elt F) S1280x1280 .f32)), Σ' (L8 : List (View.Piece (Elt F) S1x1024x1280 .fp8e5m2)), Σ' (L9 : List (View.Piece (Elt F) S1x10x1024 .f32)), Σ' (L10 : List (View.Piece (Elt F) S1280x1024 .f32)), Σ' (L11 : List (View.Piece (Elt F) S1x1024 .f32)), Σ' (LS1 : List (View.Piece (Elt F) S8x1024 .f32)), { LT0 : List (View.Piece (Elt F) S1280x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_bwd_eq_skeleton]; unfold cc0_bwd_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, ⟨%d12, %f12, -, H12⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10; obtain rfl := harg15.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]
    · iexists _, _; isplitr; swap; · iexact H12
      ipureintro; rfl
    isplitl [HS0]; · iexists _; iexact HS0
    iexists _; iexact HS1

end Cert.BwdIdeal.Gen

end
-- ==== Proof.BwdFrame.lean ====
/- The frame of the backward call: what its outputs and its carried scratch hold point by point, the body
   obligation, the run, and the frame claim. Output window 12, whose array is no result of the program, is
   forgotten: its contents are stated nowhere. -/
module

public import proofs.«01_k».proof.Proof.BwdRunC
public import Idealize.ShloMosaic.Lib.Claim

@[expose] public section

-- membership in a rectangle of production extents (`View.cover_of_tiled`): the elaborator's structural look
-- recurses once per coordinate of the long axes
set_option maxRecDepth 16384

noncomputable section

namespace Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 7 tile its block (5 stores of `S256x1280`, checked by the kernel's evaluation: Lib/Ring.lean `Piece.tiledL`, linear in the pieces, through a loop's `@[irreducible]` trip theorem too), so they cover it. -/
theorem cover0_A_7 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (y : S1280x1280.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 S256x1280.size (by sl_kernel_rfl) y

/-- What case A leaves in output 7's staging buffer: its pieces read back over junk. -/
def out0_A_7 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) : Vec F S1280x1280 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1)

/-- Case A's pieces for output 8 tile its block (10 stores of `S1x1024x128`, checked by the kernel's evaluation: Lib/Ring.lean `Piece.tiledL`, linear in the pieces, through a loop's `@[irreducible]` trip theorem too), so they cover it. -/
theorem cover0_A_8 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (y : S1x1024x1280.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1 S1x1024x128.size (by sl_kernel_rfl) y

/-- What case A leaves in output 8's staging buffer: its pieces read back over junk. -/
def out0_A_8 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) : Vec F S1x1024x1280 .fp8e5m2 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1)

/-- Case A's pieces for output 9 tile its block (10 stores of `S1x1x1024`, checked by the kernel's evaluation: Lib/Ring.lean `Piece.tiledL`, linear in the pieces, through a loop's `@[irreducible]` trip theorem too), so they cover it. -/
theorem cover0_A_9 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (y : S1x10x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1 S1x1x1024.size (by sl_kernel_rfl) y

/-- What case A leaves in output 9's staging buffer: its pieces read back over junk. -/
def out0_A_9 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) : Vec F S1x10x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1)

/-- Case A's pieces for output 10 tile its block (2 stores of `S1280x1024`, checked by the kernel's evaluation: Lib/Ring.lean `Piece.tiledL`, linear in the pieces, through a loop's `@[irreducible]` trip theorem too), so they cover it. -/
theorem cover0_A_10 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (y : S1280x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 S1280x1024.size (by sl_kernel_rfl) y

/-- What case A leaves in output 10's staging buffer: its pieces read back over junk. -/
def out0_A_10 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) : Vec F S1280x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1)

/-- Case A stores nothing into output 11 (the window is idle at its points and not written back there):
    no pieces — a placeholder (junk read back) that nothing consults, since at these points the window is neither
    written back nor read at the next point (Lib/Pipeline.lean "Idle points"). -/
def out0_A_11 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) : Vec F S1x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1)

/-- Case A's pieces for scratch `arg15`, which the kernel carries between points, cover it: 11 pieces of `S8x1024` tiling it (Lib/Ring.lean `Piece.tiledL`). -/
theorem scover0_A_1 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1 S8x1024.size (by sl_kernel_rfl) y

/-- What case A leaves in scratch `arg15`: its pieces read back over junk. -/
def sout0_A_1 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) : Vec F S8x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1)

/-- Case B's pieces for output 7 tile its block (5 stores of `S256x1280`, checked by the kernel's evaluation: Lib/Ring.lean `Piece.tiledL`, linear in the pieces, through a loop's `@[irreducible]` trip theorem too), so they cover it. -/
theorem cover0_B_7 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1280x1280.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).1 S256x1280.size (by sl_kernel_rfl) y

/-- What case B leaves in output 7's staging buffer: its pieces read back over junk. -/
def out0_B_7 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1280x1280 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).1)

/-- Case B's pieces for output 8 tile its block (10 stores of `S1x1024x128`, checked by the kernel's evaluation: Lib/Ring.lean `Piece.tiledL`, linear in the pieces, through a loop's `@[irreducible]` trip theorem too), so they cover it. -/
theorem cover0_B_8 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1x1024x1280.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.1 S1x1024x128.size (by sl_kernel_rfl) y

/-- What case B leaves in output 8's staging buffer: its pieces read back over junk. -/
def out0_B_8 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1x1024x1280 .fp8e5m2 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.1)

/-- Case B's pieces for output 9 tile its block (10 stores of `S1x1x1024`, checked by the kernel's evaluation: Lib/Ring.lean `Piece.tiledL`, linear in the pieces, through a loop's `@[irreducible]` trip theorem too), so they cover it. -/
theorem cover0_B_9 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1x10x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.1 S1x1x1024.size (by sl_kernel_rfl) y

/-- What case B leaves in output 9's staging buffer: its pieces read back over junk. -/
def out0_B_9 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1x10x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.1)

/-- Case B's pieces for output 10 tile its block (1 store of `S1280x1024`, checked by the kernel's evaluation: Lib/Ring.lean `Piece.tiledL`, linear in the pieces, through a loop's `@[irreducible]` trip theorem too), so they cover it. -/
theorem cover0_B_10 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1280x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.1 S1280x1024.size (by sl_kernel_rfl) y

/-- What case B leaves in output 10's staging buffer: its pieces read back over junk. -/
def out0_B_10 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1280x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.1)

/-- Case B stores nothing into output 11 (the window is idle at its points and not written back there):
    no pieces — a placeholder (junk read back) that nothing consults, since at these points the window is neither
    written back nor read at the next point (Lib/Pipeline.lean "Idle points"). -/
def out0_B_11 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.1)

/-- Case B's pieces for scratch `arg15`, which the kernel carries between points, cover it: 10 pieces of `S8x1024` tiling it (Lib/Ring.lean `Piece.tiledL`). -/
theorem scover0_B_1 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.2.1 S8x1024.size (by sl_kernel_rfl) y

/-- What case B leaves in scratch `arg15`: its pieces read back over junk. -/
def sout0_B_1 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : ¬cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S8x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.2.1)

/-- Case C's pieces for output 7 tile its block (5 stores of `S256x1280`, checked by the kernel's evaluation: Lib/Ring.lean `Piece.tiledL`, linear in the pieces, through a loop's `@[irreducible]` trip theorem too), so they cover it. -/
theorem cover0_C_7 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1280x1280.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).1 S256x1280.size (by sl_kernel_rfl) y

/-- What case C leaves in output 7's staging buffer: its pieces read back over junk. -/
def out0_C_7 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1280x1280 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).1)

/-- Case C's pieces for output 8 tile its block (10 stores of `S1x1024x128`, checked by the kernel's evaluation: Lib/Ring.lean `Piece.tiledL`, linear in the pieces, through a loop's `@[irreducible]` trip theorem too), so they cover it. -/
theorem cover0_C_8 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1x1024x1280.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.1 S1x1024x128.size (by sl_kernel_rfl) y

/-- What case C leaves in output 8's staging buffer: its pieces read back over junk. -/
def out0_C_8 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1x1024x1280 .fp8e5m2 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.1)

/-- Case C's pieces for output 9 tile its block (10 stores of `S1x1x1024`, checked by the kernel's evaluation: Lib/Ring.lean `Piece.tiledL`, linear in the pieces, through a loop's `@[irreducible]` trip theorem too), so they cover it. -/
theorem cover0_C_9 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1x10x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.1 S1x1x1024.size (by sl_kernel_rfl) y

/-- What case C leaves in output 9's staging buffer: its pieces read back over junk. -/
def out0_C_9 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1x10x1024 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.1)

/-- Case C's pieces for output 10 tile its block (1 store of `S1280x1024`, checked by the kernel's evaluation: Lib/Ring.lean `Piece.tiledL`, linear in the pieces, through a loop's `@[irreducible]` trip theorem too), so they cover it. -/
theorem cover0_C_10 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1280x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.1 S1280x1024.size (by sl_kernel_rfl) y

/-- What case C leaves in output 10's staging buffer: its pieces read back over junk. -/
def out0_C_10 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1280x1024 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.1)

/-- Case C's pieces for output 11 tile its block (1 store of `S1x1024`, checked by the kernel's evaluation: Lib/Ring.lean `Piece.tiledL`, linear in the pieces, through a loop's `@[irreducible]` trip theorem too), so they cover it. -/
theorem cover0_C_11 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.1 S1x1024.size (by sl_kernel_rfl) y

/-- What case C leaves in output 11's staging buffer: its pieces read back over junk. -/
def out0_C_11 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S1x1024 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.1)

/-- Case C's pieces for scratch `arg15`, which the kernel carries between points, cover it: 10 pieces of `S8x1024` tiling it (Lib/Ring.lean `Piece.tiledL`). -/
theorem scover0_C_1 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) (y : S8x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.2.1 S8x1024.size (by sl_kernel_rfl) y

/-- What case C leaves in scratch `arg15`: its pieces read back over junk. -/
def sout0_C_1 (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole) (hc0 : ¬cond0_0 i) (hc1 : cond0_1 i)
    (x0 : Vec F S250 .f32) (x1 : Vec F S1280x1280 .fp8e4m3) (x2 : Vec F S1280x1024 .f32) (x3 : Vec F S8x1024 .f32) (x4 : Vec F S1x1024 .i32) (x5 : Vec F S1x1024 .i32) (x6 : Vec F S1024x1280 .bf16) (xo10 : Vec F S1280x1024 .f32) (xs1 : Vec F S8x1024 .f32) : Vec F S8x1024 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x1280 .f32 × Vec F S1x1024x1280 .fp8e5m2 × Vec F S1x10x1024 .f32 × Vec F S1280x1024 .f32 × Vec F S1x1024 .f32 × Vec F S8x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 25 = 0 then
      if h1 : (n + 1) % 25 = 24 then
        False.elim (by have hN : n + 1 < 25 := lt_of_lt_of_eq hn (show cfg0.N = 25 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 25 = 24 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.2)

/-- `outsAt0` at a point of case A: that case's contents. -/
theorem outsAt0_A (c : Dev nD) (t : Fin cfg0.N) (h0 : t.val % 25 = 0) (h1 : ¬t.val % 25 = 24) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 25 = 0) (h1 : ¬t.val % 25 = 24) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 25 = 0) (h1 : t.val % 25 = 24) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The output windows this certificate FORGETS (12): nothing reads what the kernel leaves in them, so nothing
    of it is named (Lib/Pipeline/Dat.lean `Dat.toRForget`). -/
def forgets0 : Fin 13 → Bool := fun w => w.val == 12
theorem forgets0_7 : forgets0 (7 : Fin 13) = false := by decide
theorem forgets0_8 : forgets0 (8 : Fin 13) = false := by decide
theorem forgets0_9 : forgets0 (9 : Fin 13) = false := by decide
theorem forgets0_10 : forgets0 (10 : Fin 13) = false := by decide
theorem forgets0_11 : forgets0 (11 : Fin 13) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
    | ⟨12, h⟩ => Pipeline.Dat.unnamed (cfg := cfg0) ⟨12, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 25 = 0) (h1 : ¬t.val % 25 = 24) (d) :
    (dats m 0 c).before 10 t d = (outsAt0 m c (t.val - 1) (Nat.lt_of_le_of_lt (Nat.sub_le _ _) t.isLt)).2.2.2.1 := by
  have hN : t.val < 25 := lt_of_lt_of_eq t.isLt (show cfg0.N = 25 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 10's current staging buffer holds what the body left at the point before: the point is
    not the first, the buffer was not written back between (`flush0_10`), the window is live and uncut (Lib/Pipeline/Frame.lean
    `Dat.before_out_kept`). -/
theorem before0_10_C (c : Dev nD) (t : Fin cfg0.N) (h0 : ¬t.val % 25 = 0) (h1 : t.val % 25 = 24) (d) :
    (dats m 0 c).before 10 t d = (outsAt0 m c (t.val - 1) (Nat.lt_of_le_of_lt (Nat.sub_le _ _) t.isLt)).2.2.2.1 := by
  have hN : t.val < 25 := lt_of_lt_of_eq t.isLt (show cfg0.N = 25 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  by_cases h0 : t.val % 25 = 0
  · by_cases h1 : t.val % 25 = 24
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_7 out0_A_8 out0_A_9 out0_A_10 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexact H11
        isplitl [H12]; · iexists _; iexact H12
        isplitl [HS0]; · iexact HS0
        isplitl [HS1]; · iexact HS1
        iintro ⟨H0, H1, H2, H3, H4, H5, H6, ⟨%e7, H7⟩, ⟨%e8, H8⟩, ⟨%e9, H9⟩, ⟨%e10, H10⟩, H11, H12, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _)
        isplitl [H11]; · iexists _; iexact H11
        iexact H12
      · exfalso; have hN : t.val < 25 := lt_of_lt_of_eq t.isLt (show cfg0.N = 25 from N_0); omega
  · by_cases h1 : t.val % 25 = 24
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11_C t (fun h => h0 ((hcond0_0 t).mp h)) ((hcond0_1 t).mpr h1)], after0_11]
      by_cases hz : t.val = 0
      · exfalso; have hN : t.val < 25 := lt_of_lt_of_eq t.isLt (show cfg0.N = 25 from N_0); omega
      · rw [PhiS_castSucc m c t, PhiS_pos m c _ _ hz]
        rw [outsAt0_C m c t h0 h1]
        simp only [before0_10_C m c t h0 h1]
        unfold out0_C_7 out0_C_8 out0_C_9 out0_C_10 out0_C_11 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexact H10
        isplitl [H11]; · iexists _; iexact H11
        isplitl [H12]; · iexists _; iexact H12
        isplitl [HS0]; · iexact HS0
        isplitl [HS1]; · iexact HS1
        iintro ⟨H0, H1, H2, H3, H4, H5, H6, ⟨%e7, H7⟩, ⟨%e8, H8⟩, ⟨%e9, H9⟩, ⟨%e10, H10⟩, ⟨%e11, H11⟩, H12, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _)
        iexact H12
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      by_cases hz : t.val = 0
      · exfalso; have hN : t.val < 25 := lt_of_lt_of_eq t.isLt (show cfg0.N = 25 from N_0); omega
      · rw [PhiS_castSucc m c t, PhiS_pos m c _ _ hz]
        rw [outsAt0_B m c t h0 h1]
        simp only [before0_10_B m c t h0 h1]
        unfold out0_B_7 out0_B_8 out0_B_9 out0_B_10 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexact H10
        isplitl [H11]; · iexact H11
        isplitl [H12]; · iexists _; iexact H12
        isplitl [HS0]; · iexact HS0
        isplitl [HS1]; · iexact HS1
        iintro ⟨H0, H1, H2, H3, H4, H5, H6, ⟨%e7, H7⟩, ⟨%e8, H8⟩, ⟨%e9, H9⟩, ⟨%e10, H10⟩, H11, H12, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _)
        isplitl [H11]; · iexists _; iexact H11
        iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_BwdIdeal`'s statement (Defs.lean) at any `F` — Proof.lean cites it at `Bits`:
    `theorem Cert.Proof.claim : Cert.Claim := ⟨Cert.BwdIdeal.Gen.facts, fun m ρ _ => Cert.BwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.BwdIdeal.Gen

end
-- ==== Proof.BwdOut.lean ====
module

public import proofs.«01_k».proof.Proof.BwdFrame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BwdIdeal.Value

open Cert.BwdIdeal Cert.BwdIdeal.Gen

/-- One step of the search for the exponent field: the bits `b` are added if the float they give is not above `y`. -/
def stepU (b : BitVec 32) (y : FVec Ideal S1x1024 .f32) (e : IVec S1x1024 32) : IVec S1x1024 32 :=
  select (cmpf .oge y (bitcastToFloat .f32 (addi e (broadcast S1x1024 b)))) (addi e (broadcast S1x1024 b)) e

/-- The exponent field of each column's value. -/
def expU (y : FVec Ideal S1x1024 .f32) : IVec S1x1024 32 :=
  stepU 8388608#32 y (stepU 16777216#32 y (stepU 33554432#32 y (stepU 67108864#32 y (stepU 134217728#32 y (stepU 268435456#32 y
    (stepU 536870912#32 y (stepU 1073741824#32 y (broadcast S1x1024 0#32))))))))

/-- Whether the exponent field is that of a normal number. -/
def okU (e : IVec S1x1024 32) : IVec S1x1024 1 := andi (cmpi .ne e (broadcast S1x1024 0#32)) (cmpi .ne e (broadcast S1x1024 2139095040#32))

/-- The scale of each column. -/
def scaleU (e : IVec S1x1024 32) : FVec Ideal S1x1024 .f32 :=
  bitcastToFloat .f32 (select (okU e) (addi e (broadcast S1x1024 8388608#32)) (broadcast S1x1024 1065353216#32))

/-- The inverse of each column's scale. -/
def invU (e : IVec S1x1024 32) : FVec Ideal S1x1024 .f32 :=
  bitcastToFloat .f32 (select (okU e) (subi (broadcast S1x1024 2122317824#32) e) (broadcast S1x1024 1065353216#32))

/-- The labels of a block of 128 rows, its first row being `o`. -/
def hitU (o : BitVec 32) (x4 : Vec Ideal S1x1024 .i32) : IVec S128x1024 1 :=
  cmpi .eq (iota .tc S128x1024 32 [0] iota_S128x1024_d0_w32) (broadcastTo S128x1024 (subi x4 (broadcast S1x1024 o)) broadcasts_S1x1024_S128x1024)

/-- The gradient of the logits of a block of 128 rows. -/
def gU (o : BitVec 32) (l : FVec Ideal S128x1024 .f32) (lse : FVec Ideal S1x1024 .f32) (x4 x5 : Vec Ideal S1x1024 .i32) : FVec Ideal S128x1024 .f32 :=
  mulf (subf (exp2 (subf l (broadcastTo S128x1024 lse broadcasts_S1x1024_S128x1024)))
    (select (hitU o x4) (broadcast S128x1024 (FloatOps.ofBits (F := Ideal) .f32 1065353216#32)) (broadcast S128x1024 (FloatOps.ofBits (F := Ideal) .f32 0#32))))
    (broadcastTo S128x1024 (k0_pay9 (F := Ideal) x5) broadcasts_S1x1024_S128x1024)

/-- A column's greatest magnitude over the format's limit. -/
def yU (g : FVec Ideal S128x1024 .f32) : FVec Ideal S1x1024 .f32 :=
  mulf (shapeCast S1x1024 (multiReduction .maximumf [0] S1024 (absf g) 0xFF800000#32 reduces_S128x1024_S1024 (.inl rfl) rfl) shapeCasts_S1024_S1x1024) (broadcast S1x1024 (FloatOps.ofBits (F := Ideal) .f32 0x37924925#32))

/-- The codes of a block of 128 rows. -/
def codesU (g : FVec Ideal S128x1024 .f32) : FVec Ideal S128x1024 .bf16 :=
  extf .bf16 (truncf .fp8e5m2 (minimumf (broadcast S128x1024 (FloatOps.ofBits (F := Ideal) .f32 1197473792#32))
    (maximumf (broadcast S128x1024 (FloatOps.ofBits (F := Ideal) .f32 3344957440#32)) (mulf g (broadcastTo S128x1024 (invU (expU (yU g))) broadcasts_S1x1024_S128x1024)))) bitsLt_fp8e5m2_f32) bitsLt_fp8e5m2_bf16

/-- The codes times the scale. -/
def gdU (g : FVec Ideal S128x1024 .f32) : FVec Ideal S128x1024 .bf16 :=
  mulf (codesU g) (broadcastTo S128x1024 (truncf .bf16 (scaleU (expU (yU g))) bitsLt_bf16_f32) broadcasts_S1x1024_S128x1024)

/-- The rows of group `j` of a block of 1280 rows. -/
def grp (j : Fin 10) (x2 : Vec Ideal S1280x1024 .f32) : FVec Ideal S128x1024 .f32 :=
  View.ld x2 (Rect.unit (s := S1280x1024) ![128 * j.val, 0] S128x1024.size (fun a => by have := j.isLt; match a with | ⟨0, _⟩ => (show 128 * j.val + 128 ≤ 1280; omega) | ⟨1, _⟩ => exact le_refl 1024))

/-- The gradient of the logits of group `j` at the point. -/
def gB (i : grid0.Coords) (x2 : Vec Ideal S1280x1024 .f32) (x3 : Vec Ideal S8x1024 .f32) (x4 x5 : Vec Ideal S1x1024 .i32) (j : Fin 10) : FVec Ideal S128x1024 .f32 :=
  gU (Scalar.addi (Scalar.muli (BitVec.ofNat 32 (i 0).val) 1280#32) (BitVec.ofNat 32 (128 * j.val))) (grp j x2) (View.ld x3 (Rect.unit (s := S8x1024) ![0, 0] S1x1024.size inb_S8x1024_S1x1024_0_0)) x4 x5

/-- Ten rows of scales, one for each group. -/
def stackS (L : Fin 10 → FVec Ideal S1x1024 .f32) : FVec Ideal S1x10x1024 .f32 := fun y =>
  L ⟨(y 1).val, (y 1).isLt⟩ (ix2 0 ⟨(y 2).val, (y 2).isLt⟩)

theorem stackS_eq (L : Fin 10 → FVec Ideal S1x1024 .f32) (k : Fin 10) (x : S1x1x1024.Idx) (y : S1x10x1024.Idx) (h1 : (y 1).val = k.val + (x 1).val) (h2 : (y 2).val = (x 2).val) :
    shapeCast S1x1x1024 (L k) shapeCasts_S1x1024_S1x1x1024 x = stackS L y := by
  have hx : (x 1).val < 1 := (x 1).isLt
  unfold stackS
  rw [show (⟨(y 1).val, (y 1).isLt⟩ : Fin 10) = k from Fin.ext (by simp only; omega)]
  generalize L k = M
  rw [show (⟨(y 2).val, (y 2).isLt⟩ : Fin 1024) = x 2 from Fin.ext h2]
  pointwise []

/-- Ten blocks of 128 columns, side by side. -/
def stackC (L : Fin 10 → FVec Ideal S128x1024 .bf16) : FVec Ideal S1x1024x1280 .fp8e5m2 := fun y =>
  L ⟨(y 2).val / 128, by have : (y 2).val < 1280 := (y 2).isLt; omega⟩ (ix2 ⟨(y 2).val % 128, by omega⟩ ⟨(y 1).val, (y 1).isLt⟩)

theorem stackC_eq (L : Fin 10 → FVec Ideal S128x1024 .bf16) (k : Fin 10) (x : S1x1024x128.Idx) (y : S1x1024x1280.Idx) (h1 : (y 1).val = (x 1).val) (h2 : (y 2).val = 128 * k.val + (x 2).val) :
    shapeCast S1x1024x128 (truncf .fp8e5m2 (transpose S1024x128 [1, 0] (L k) transposes_S128x1024_p1_0_S1024x128) bitsLt_fp8e5m2_bf16) shapeCasts_S1024x128_S1x1024x128 x = stackC L y := by
  have hx : (x 2).val < 128 := (x 2).isLt
  unfold stackC
  rw [show (⟨(y 2).val / 128, by have : (y 2).val < 1280 := (y 2).isLt; omega⟩ : Fin 10) = k from Fin.ext (by simp only; omega)]
  generalize L k = M
  rw [show (⟨(y 2).val % 128, by omega⟩ : Fin 128) = x 2 from Fin.ext (by simp only; omega), show (⟨(y 1).val, (y 1).isLt⟩ : Fin 1024) = x 1 from Fin.ext h1]
  pointwise []

/-- Ten blocks of 128 rows, one below the other. -/
def stackR (L : Fin 10 → FVec Ideal S128x1024 .bf16) : FVec Ideal S1280x1024 .bf16 := fun y =>
  L ⟨(y 0).val / 128, by have : (y 0).val < 1280 := (y 0).isLt; omega⟩ (ix2 ⟨(y 0).val % 128, by omega⟩ ⟨(y 1).val, (y 1).isLt⟩)

theorem stackR_eq (L : Fin 10 → FVec Ideal S128x1024 .bf16) (k : Fin 10) (x : S128x1024.Idx) (y : S1280x1024.Idx) (h0 : (y 0).val = 128 * k.val + (x 0).val) (h1 : (y 1).val = (x 1).val) :
    shapeCast S128x1024 (L k) shapeCasts_S128x1024_S128x1024 x = stackR L y := by
  have hx : (x 0).val < 128 := (x 0).isLt
  unfold stackR
  rw [show (⟨(y 0).val / 128, by have : (y 0).val < 1280 := (y 0).isLt; omega⟩ : Fin 10) = k from Fin.ext (by simp only; omega)]
  generalize L k = M
  rw [show (⟨(y 0).val % 128, by omega⟩ : Fin 128) = x 0 from Fin.ext (by simp only; omega), show (⟨(y 1).val, (y 1).isLt⟩ : Fin 1024) = x 1 from Fin.ext h1]
  pointwise []

/-- The ten stored blocks of rows, read back through a rectangle. -/
theorem readCov_stackR {κ : Kind} {sp : Space} (v : View sig κ sp S1280x1024 .bf16) (L : Fin 10 → FVec Ideal S128x1024 .bf16) (r : Rect S1280x1024) :
    v.readCov (Val := Elt Ideal) [⟨Rect.unit (s := S1280x1024) ![1152, 0] S128x1024.size inb_S1280x1024_S128x1024_1152_0, shapeCast S128x1024 (L 9) shapeCasts_S128x1024_S128x1024⟩, ⟨Rect.unit (s := S1280x1024) ![1024, 0] S128x1024.size inb_S1280x1024_S128x1024_1024_0, shapeCast S128x1024 (L 8) shapeCasts_S128x1024_S128x1024⟩, ⟨Rect.unit (s := S1280x1024) ![896, 0] S128x1024.size inb_S1280x1024_S128x1024_896_0, shapeCast S128x1024 (L 7) shapeCasts_S128x1024_S128x1024⟩, ⟨Rect.unit (s := S1280x1024) ![768, 0] S128x1024.size inb_S1280x1024_S128x1024_768_0, shapeCast S128x1024 (L 6) shapeCasts_S128x1024_S128x1024⟩, ⟨Rect.unit (s := S1280x1024) ![640, 0] S128x1024.size inb_S1280x1024_S128x1024_640_0, shapeCast S128x1024 (L 5) shapeCasts_S128x1024_S128x1024⟩, ⟨Rect.unit (s := S1280x1024) ![512, 0] S128x1024.size inb_S1280x1024_S128x1024_512_0, shapeCast S128x1024 (L 4) shapeCasts_S128x1024_S128x1024⟩, ⟨Rect.unit (s := S1280x1024) ![384, 0] S128x1024.size inb_S1280x1024_S128x1024_384_0, shapeCast S128x1024 (L 3) shapeCasts_S128x1024_S128x1024⟩, ⟨Rect.unit (s := S1280x1024) ![256, 0] S128x1024.size inb_S1280x1024_S128x1024_256_0, shapeCast S128x1024 (L 2) shapeCasts_S128x1024_S128x1024⟩, ⟨Rect.unit (s := S1280x1024) ![128, 0] S128x1024.size inb_S1280x1024_S128x1024_128_0, shapeCast S128x1024 (L 1) shapeCasts_S128x1024_S128x1024⟩, ⟨Rect.unit (s := S1280x1024) ![0, 0] S128x1024.size inb_S1280x1024_S128x1024_0_0, shapeCast S128x1024 (L 0) shapeCasts_S128x1024_S128x1024⟩] r.toLoadRect = View.ld (stackR L) r := by
  rw [View.readCov_eq_canon']
  refine congrArg (fun X : S1280x1024.Idx → Elt Ideal .bf16 => View.ld X r) (funext fun y => ?_)
  canon_tiles x h
  · exact stackR_eq L 9 x y (by omega) (by omega)
  · exact stackR_eq L 8 x y (by omega) (by omega)
  · exact stackR_eq L 7 x y (by omega) (by omega)
  · exact stackR_eq L 6 x y (by omega) (by omega)
  · exact stackR_eq L 5 x y (by omega) (by omega)
  · exact stackR_eq L 4 x y (by omega) (by omega)
  · exact stackR_eq L 3 x y (by omega) (by omega)
  · exact stackR_eq L 2 x y (by omega) (by omega)
  · exact stackR_eq L 1 x y (by omega) (by omega)
  · exact stackR_eq L 0 x y (by omega) (by omega)

/-- The gradient of the head at the point: the dequantised gradient times the dequantised activations. -/
def dwB (L : Fin 10 → FVec Ideal S128x1024 .bf16) (x6 : Vec Ideal S1024x1280 .bf16) : FVec Ideal S1280x1280 .f32 := fun y =>
  ∑ q : Fin 1024, stackR L (ix2 ⟨(y 0).val, (y 0).isLt⟩ q) * x6 (ix2 q ⟨(y 1).val, (y 1).isLt⟩)

theorem dwB_eq {κ : Kind} {sp : Space} (v : View sig κ sp S1280x1024 .bf16) (L : Fin 10 → FVec Ideal S128x1024 .bf16) (x6 : Vec Ideal S1024x1280 .bf16) (k : Fin 5)
    (hk : ∀ a, (![256 * k.val, 0] : Fin 2 → ℕ) a + S256x1024.size a ≤ S1280x1024.size a) (x : S256x1280.Idx) (y : S1280x1280.Idx) (h0 : (y 0).val = 256 * k.val + (x 0).val) (h1 : (y 1).val = (x 1).val) :
    matmul (φ₁ := .bf16) (φ₂ := .bf16) dot_S256x1024_S1024x1280_S256x1280_1_0_0_1_n_n none
      (v.readCov (Val := Elt Ideal) [⟨Rect.unit (s := S1280x1024) ![1152, 0] S128x1024.size inb_S1280x1024_S128x1024_1152_0, shapeCast S128x1024 (L 9) shapeCasts_S128x1024_S128x1024⟩, ⟨Rect.unit (s := S1280x1024) ![1024, 0] S128x1024.size inb_S1280x1024_S128x1024_1024_0, shapeCast S128x1024 (L 8) shapeCasts_S128x1024_S128x1024⟩, ⟨Rect.unit (s := S1280x1024) ![896, 0] S128x1024.size inb_S1280x1024_S128x1024_896_0, shapeCast S128x1024 (L 7) shapeCasts_S128x1024_S128x1024⟩, ⟨Rect.unit (s := S1280x1024) ![768, 0] S128x1024.size inb_S1280x1024_S128x1024_768_0, shapeCast S128x1024 (L 6) shapeCasts_S128x1024_S128x1024⟩, ⟨Rect.unit (s := S1280x1024) ![640, 0] S128x1024.size inb_S1280x1024_S128x1024_640_0, shapeCast S128x1024 (L 5) shapeCasts_S128x1024_S128x1024⟩, ⟨Rect.unit (s := S1280x1024) ![512, 0] S128x1024.size inb_S1280x1024_S128x1024_512_0, shapeCast S128x1024 (L 4) shapeCasts_S128x1024_S128x1024⟩, ⟨Rect.unit (s := S1280x1024) ![384, 0] S128x1024.size inb_S1280x1024_S128x1024_384_0, shapeCast S128x1024 (L 3) shapeCasts_S128x1024_S128x1024⟩, ⟨Rect.unit (s := S1280x1024) ![256, 0] S128x1024.size inb_S1280x1024_S128x1024_256_0, shapeCast S128x1024 (L 2) shapeCasts_S128x1024_S128x1024⟩, ⟨Rect.unit (s := S1280x1024) ![128, 0] S128x1024.size inb_S1280x1024_S128x1024_128_0, shapeCast S128x1024 (L 1) shapeCasts_S128x1024_S128x1024⟩, ⟨Rect.unit (s := S1280x1024) ![0, 0] S128x1024.size inb_S1280x1024_S128x1024_0_0, shapeCast S128x1024 (L 0) shapeCasts_S128x1024_S128x1024⟩] (Rect.unit (s := S1280x1024) ![256 * k.val, 0] S256x1024.size hk).toLoadRect) x6
      (constant S256x1280 .f32 0x00000000#32) x = dwB L x6 y := by
  rw [readCov_stackR]
  have hx : (x 0).val < 256 := (x 0).isLt
  unfold dwB
  generalize stackR L = M
  pointwise []
  refine Finset.sum_congr rfl fun q _ => ?_
  refine congrArg₂ (fun a b : EReal => a * b) (congrArg M (funext fun a => Fin.ext ?_)) (congrArg x6 (funext fun a => Fin.ext ?_))
  · match a with
    | ⟨0, _⟩ => exact h0.symm
    | ⟨1, _⟩ => rfl
  · match a with
    | ⟨0, _⟩ => rfl
    | ⟨1, _⟩ => exact h1.symm
/-- A group's weights. -/
def grpW (j : Fin 10) (x1 : Vec Ideal S1280x1280 .fp8e4m3) : Vec Ideal S128x1280 .fp8e4m3 :=
  View.ld x1 (Rect.unit (s := S1280x1280) ![128 * j.val, 0] S128x1280.size (fun a => by have := j.isLt; match a with | ⟨0, _⟩ => (show 128 * j.val + 128 ≤ 1280; omega) | ⟨1, _⟩ => exact le_refl 1280))

/-- A group's weights times their scale. -/
def wd (X : Fin 10 → Vec Ideal S128x1280 .fp8e4m3) (w : Fin 10 → Elt Ideal .f32) (j : Fin 10) : FVec Ideal S128x1280 .bf16 :=
  mulf (extf .bf16 (X j) bitsLt_fp8e4m3_bf16) (broadcast S128x1280 (Scalar.truncf .bf16 bitsLt_bf16_f32 (w j)))

/-- The gradient of the activations after the point. -/
def dhtB (X : Fin 10 → Vec Ideal S128x1280 .fp8e4m3) (w : Fin 10 → Elt Ideal .f32) (L : Fin 10 → FVec Ideal S128x1024 .bf16) (acc : FVec Ideal S1280x1024 .f32) : FVec Ideal S1280x1024 .f32 := fun y =>
  acc y + ∑ v : Fin 1280, X ⟨v.val / 128, by omega⟩ (ix2 ⟨v.val % 128, by omega⟩ (y 0)) * w ⟨v.val / 128, by omega⟩ * stackR L (ix2 v (y 1))

/-- Ten blocks of 128 rows, at a row. -/
theorem row_pick (W : Fin 10 → FVec Ideal S128x1280 .bf16) (x : Fin 1280) (k : Fin 10) (a : Fin 128) (d : Fin 1280) (h : x.val = 128 * k.val + a.val) :
    W k (ix2 a d) = W ⟨x.val / 128, by omega⟩ (ix2 ⟨x.val % 128, by omega⟩ d) := by
  rw [show (⟨x.val / 128, by omega⟩ : Fin 10) = k from Fin.ext (by simp only; omega), show (⟨x.val % 128, by omega⟩ : Fin 128) = a from Fin.ext (by simp only; omega)]

/-- The product of the point's weights with the gradient, added to what was there. -/
theorem pay167_apply (W : Fin 10 → FVec Ideal S128x1280 .bf16) (x9 : Vec Ideal S128x1280 .fp8e4m3) (w : Elt Ideal .f32)
    (h9 : W 9 = mulf (extf .bf16 x9 bitsLt_fp8e4m3_bf16) (broadcast S128x1280 (Scalar.truncf .bf16 bitsLt_bf16_f32 w)))
    (acc : FVec Ideal S1280x1024 .f32) (g : Vec Ideal S1280x1024 .bf16) (d : Fin 1280) (q : Fin 1024) :
    k0_pay167 (F := Ideal) (W 0) (W 1) (W 2) (W 3) (W 4) (W 5) (W 6) (W 7) (W 8) x9 w acc g (ix2 d q)
      = acc (ix2 d q) + ∑ x : Fin 1280, W ⟨x.val / 128, by omega⟩ (ix2 ⟨x.val % 128, by omega⟩ d) * g (ix2 x q) := by
  unfold k0_pay167
  rw [← h9]
  pointwise []
  refine congrArg (fun s : EReal => acc (ix2 d q) + s) (Finset.sum_congr rfl fun x _ => congrArg (fun s : EReal => s * g (ix2 x q)) ?_)
  have hx := x.isLt
  by_cases h0 : x.val < 128
  · rw [dif_pos h0]; exact row_pick W x 0 _ d (by simp only; omega)
  rw [dif_neg h0]
  by_cases h1 : x.val - 128 < 128
  · rw [dif_pos h1]; exact row_pick W x 1 _ d (by simp only; omega)
  rw [dif_neg h1]
  by_cases h2 : x.val - 128 - 128 < 128
  · rw [dif_pos h2]; exact row_pick W x 2 _ d (by simp only; omega)
  rw [dif_neg h2]
  by_cases h3 : x.val - 128 - 128 - 128 < 128
  · rw [dif_pos h3]; exact row_pick W x 3 _ d (by simp only; omega)
  rw [dif_neg h3]
  by_cases h4 : x.val - 128 - 128 - 128 - 128 < 128
  · rw [dif_pos h4]; exact row_pick W x 4 _ d (by simp only; omega)
  rw [dif_neg h4]
  by_cases h5 : x.val - 128 - 128 - 128 - 128 - 128 < 128
  · rw [dif_pos h5]; exact row_pick W x 5 _ d (by simp only; omega)
  rw [dif_neg h5]
  by_cases h6 : x.val - 128 - 128 - 128 - 128 - 128 - 128 < 128
  · rw [dif_pos h6]; exact row_pick W x 6 _ d (by simp only; omega)
  rw [dif_neg h6]
  by_cases h7 : x.val - 128 - 128 - 128 - 128 - 128 - 128 - 128 < 128
  · rw [dif_pos h7]; exact row_pick W x 7 _ d (by simp only; omega)
  rw [dif_neg h7]
  by_cases h8 : x.val - 128 - 128 - 128 - 128 - 128 - 128 - 128 - 128 < 128
  · rw [dif_pos h8]; exact row_pick W x 8 _ d (by simp only; omega)
  rw [dif_neg h8]
  exact row_pick W x 9 _ d (by simp only; omega)

theorem dht_step {κ : Kind} {sp : Space} (v : View sig κ sp S1280x1024 .bf16) (X : Fin 10 → Vec Ideal S128x1280 .fp8e4m3) (w : Fin 10 → Elt Ideal .f32) (L : Fin 10 → FVec Ideal S128x1024 .bf16) (acc : FVec Ideal S1280x1024 .f32) (y : S1280x1024.Idx) :
    k0_pay167 (F := Ideal) (wd X w 0) (wd X w 1) (wd X w 2) (wd X w 3) (wd X w 4) (wd X w 5) (wd X w 6) (wd X w 7) (wd X w 8) (X 9) (w 9) acc
      (v.readCov (Val := Elt Ideal) [⟨Rect.unit (s := S1280x1024) ![1152, 0] S128x1024.size inb_S1280x1024_S128x1024_1152_0, shapeCast S128x1024 (L 9) shapeCasts_S128x1024_S128x1024⟩, ⟨Rect.unit (s := S1280x1024) ![1024, 0] S128x1024.size inb_S1280x1024_S128x1024_1024_0, shapeCast S128x1024 (L 8) shapeCasts_S128x1024_S128x1024⟩, ⟨Rect.unit (s := S1280x1024) ![896, 0] S128x1024.size inb_S1280x1024_S128x1024_896_0, shapeCast S128x1024 (L 7) shapeCasts_S128x1024_S128x1024⟩, ⟨Rect.unit (s := S1280x1024) ![768, 0] S128x1024.size inb_S1280x1024_S128x1024_768_0, shapeCast S128x1024 (L 6) shapeCasts_S128x1024_S128x1024⟩, ⟨Rect.unit (s := S1280x1024) ![640, 0] S128x1024.size inb_S1280x1024_S128x1024_640_0, shapeCast S128x1024 (L 5) shapeCasts_S128x1024_S128x1024⟩, ⟨Rect.unit (s := S1280x1024) ![512, 0] S128x1024.size inb_S1280x1024_S128x1024_512_0, shapeCast S128x1024 (L 4) shapeCasts_S128x1024_S128x1024⟩, ⟨Rect.unit (s := S1280x1024) ![384, 0] S128x1024.size inb_S1280x1024_S128x1024_384_0, shapeCast S128x1024 (L 3) shapeCasts_S128x1024_S128x1024⟩, ⟨Rect.unit (s := S1280x1024) ![256, 0] S128x1024.size inb_S1280x1024_S128x1024_256_0, shapeCast S128x1024 (L 2) shapeCasts_S128x1024_S128x1024⟩, ⟨Rect.unit (s := S1280x1024) ![128, 0] S128x1024.size inb_S1280x1024_S128x1024_128_0, shapeCast S128x1024 (L 1) shapeCasts_S128x1024_S128x1024⟩, ⟨Rect.unit (s := S1280x1024) ![0, 0] S128x1024.size inb_S1280x1024_S128x1024_0_0, shapeCast S128x1024 (L 0) shapeCasts_S128x1024_S128x1024⟩] (Rect.unit (s := S1280x1024) ![0, 0] S1280x1024.size inb_S1280x1024_S1280x1024_0_0).toLoadRect) y = dhtB X w L acc y := by
  rw [readCov_stackR]
  have hM : ∀ M : FVec Ideal S1280x1024 .bf16, (View.ld (Val := Elt Ideal) (e' := .bf16) M (Rect.unit (s := S1280x1024) ![0, 0] S1280x1024.size inb_S1280x1024_S1280x1024_0_0) : FVec Ideal S1280x1024 .bf16) = M := fun M =>
    funext fun z => congrArg M (funext fun a => Fin.ext (by match a with | ⟨0, _⟩ => (show 0 + 1 * (z 0).val = (z 0).val; omega) | ⟨1, _⟩ => (show 0 + 1 * (z 1).val = (z 1).val; omega)))
  rw [hM]
  obtain ⟨d, q, rfl⟩ : ∃ (d : Fin 1280) (q : Fin 1024), y = ix2 d q := ⟨y 0, y 1, funext fun a => by match a with | ⟨0, _⟩ => rfl | ⟨1, _⟩ => rfl⟩
  exact pay167_apply (wd X w) (X 9) (w 9) rfl acc (stackR L) d q

/-- The labels' logits of a group of 128 rows, sixteen rows added up in each of eight. -/
def tU (o : BitVec 32) (l : FVec Ideal S128x1024 .f32) (x4 : Vec Ideal S1x1024 .i32) : FVec Ideal S8x1024 .f32 :=
  multiReduction .add [0] S8x1024 (shapeCast S16x8x1024 (select (hitU o x4) l (broadcast S128x1024 (FloatOps.ofBits (F := Ideal) .f32 0#32))) shapeCasts_S128x1024_S16x8x1024) 0#32 reduces_S16x8x1024_S8x1024 (.inl rfl) rfl

/-- The same at group `j` of the point. -/
def tB (i : grid0.Coords) (x2 : Vec Ideal S1280x1024 .f32) (x4 : Vec Ideal S1x1024 .i32) (j : Fin 10) : FVec Ideal S8x1024 .f32 :=
  tU (Scalar.addi (Scalar.muli (BitVec.ofNat 32 (i 0).val) 1280#32) (BitVec.ofNat 32 (128 * j.val))) (grp j x2) x4

/-- One addition into the accumulator. -/
def addT (a b : FVec Ideal S8x1024 .f32) : FVec Ideal S8x1024 .f32 := shapeCast S8x1024 (addf a b) shapeCasts_S8x1024_S8x1024

/-- The accumulator after the ten groups. -/
def tgtB (T : Fin 10 → FVec Ideal S8x1024 .f32) (a : FVec Ideal S8x1024 .f32) : FVec Ideal S8x1024 .f32 :=
  addT (addT (addT (addT (addT (addT (addT (addT (addT (addT a (T 0)) (T 1)) (T 2)) (T 3)) (T 4)) (T 5)) (T 6)) (T 7)) (T 8)) (T 9)
theorem one_pos_S1 : 0 < S1.numel := by decide

/-- The scale of group `j` of the point's weights. -/
def wsB (i : grid0.Coords) (x0 : Vec Ideal S250 .f32) (j : Fin 10) : Elt Ideal .f32 :=
  View.ld x0 (Rect.unit (s := S250) (k0_off1 i (BitVec.ofNat 32 j.val)) S1.size (k0_off1_inb i j)) (Shape.Idx.first one_pos_S1)

section Out

variable (c : Dev nD) (i : grid0.Coords) (arg1 : Memref sig .tc .smem S250 .f32) (harg1 : arg1.IsWhole) (arg2 : Memref sig .tc .vmem S1280x1280 .fp8e4m3) (harg2 : arg2.IsWhole) (arg3 : Memref sig .tc .vmem S1280x1024 .f32) (harg3 : arg3.IsWhole) (arg4 : Memref sig .tc .vmem S8x1024 .f32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1024x1280 .bf16) (harg7 : arg7.IsWhole) (arg8 : Memref sig .tc .vmem S1280x1280 .f32) (harg8 : arg8.IsWhole) (arg9 : Memref sig .tc .vmem S1x1024x1280 .fp8e5m2) (harg9 : arg9.IsWhole) (arg10 : Memref sig .tc .vmem S1x10x1024 .f32) (harg10 : arg10.IsWhole) (arg11 : Memref sig .tc .vmem S1280x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1280x1024 .bf16) (harg14 : arg14.IsWhole) (arg15 : Memref sig .tc .vmem S8x1024 .f32) (harg15 : arg15.IsWhole)
    (x0 : Vec Ideal S250 .f32) (x1 : Vec Ideal S1280x1280 .fp8e4m3) (x2 : Vec Ideal S1280x1024 .f32) (x3 : Vec Ideal S8x1024 .f32) (x4 : Vec Ideal S1x1024 .i32) (x5 : Vec Ideal S1x1024 .i32) (x6 : Vec Ideal S1024x1280 .bf16) (xo10 : Vec Ideal S1280x1024 .f32) (xs1 : Vec Ideal S8x1024 .f32)

/-- Case A: the codes stored at the point. -/
theorem out_A_8 (hc0 : cond0_0 i) (hc1 : ¬cond0_1 i) (y : S1x1024x1280.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6  y = stackC (fun j => codesU (gB i x2 x3 x4 x5 j)) y := by
  frame_out
  canon_tiles x h
  · exact stackC_eq (fun j => codesU (gB i x2 x3 x4 x5 j)) 9 x y (by omega) (by omega)
  · exact stackC_eq (fun j => codesU (gB i x2 x3 x4 x5 j)) 8 x y (by omega) (by omega)
  · exact stackC_eq (fun j => codesU (gB i x2 x3 x4 x5 j)) 7 x y (by omega) (by omega)
  · exact stackC_eq (fun j => codesU (gB i x2 x3 x4 x5 j)) 6 x y (by omega) (by omega)
  · exact stackC_eq (fun j => codesU (gB i x2 x3 x4 x5 j)) 5 x y (by omega) (by omega)
  · exact stackC_eq (fun j => codesU (gB i x2 x3 x4 x5 j)) 4 x y (by omega) (by omega)
  · exact stackC_eq (fun j => codesU (gB i x2 x3 x4 x5 j)) 3 x y (by omega) (by omega)
  · exact stackC_eq (fun j => codesU (gB i x2 x3 x4 x5 j)) 2 x y (by omega) (by omega)
  · exact stackC_eq (fun j => codesU (gB i x2 x3 x4 x5 j)) 1 x y (by omega) (by omega)
  · exact stackC_eq (fun j => codesU (gB i x2 x3 x4 x5 j)) 0 x y (by omega) (by omega)

/-- Case B: the codes stored at the point. -/
theorem out_B_8 (hc0 : ¬cond0_0 i) (hc1 : ¬cond0_1 i) (y : S1x1024x1280.Idx) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = stackC (fun j => codesU (gB i x2 x3 x4 x5 j)) y := by
  frame_out
  canon_tiles x h
  · exact stackC_eq (fun j => codesU (gB i x2 x3 x4 x5 j)) 9 x y (by omega) (by omega)
  · exact stackC_eq (fun j => codesU (gB i x2 x3 x4 x5 j)) 8 x y (by omega) (by omega)
  · exact stackC_eq (fun j => codesU (gB i x2 x3 x4 x5 j)) 7 x y (by omega) (by omega)
  · exact stackC_eq (fun j => codesU (gB i x2 x3 x4 x5 j)) 6 x y (by omega) (by omega)
  · exact stackC_eq (fun j => codesU (gB i x2 x3 x4 x5 j)) 5 x y (by omega) (by omega)
  · exact stackC_eq (fun j => codesU (gB i x2 x3 x4 x5 j)) 4 x y (by omega) (by omega)
  · exact stackC_eq (fun j => codesU (gB i x2 x3 x4 x5 j)) 3 x y (by omega) (by omega)
  · exact stackC_eq (fun j => codesU (gB i x2 x3 x4 x5 j)) 2 x y (by omega) (by omega)
  · exact stackC_eq (fun j => codesU (gB i x2 x3 x4 x5 j)) 1 x y (by omega) (by omega)
  · exact stackC_eq (fun j => codesU (gB i x2 x3 x4 x5 j)) 0 x y (by omega) (by omega)

/-- Case C: the codes stored at the point. -/
theorem out_C_8 (hc0 : ¬cond0_0 i) (hc1 : cond0_1 i) (y : S1x1024x1280.Idx) : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = stackC (fun j => codesU (gB i x2 x3 x4 x5 j)) y := by
  frame_out
  canon_tiles x h
  · exact stackC_eq (fun j => codesU (gB i x2 x3 x4 x5 j)) 9 x y (by omega) (by omega)
  · exact stackC_eq (fun j => codesU (gB i x2 x3 x4 x5 j)) 8 x y (by omega) (by omega)
  · exact stackC_eq (fun j => codesU (gB i x2 x3 x4 x5 j)) 7 x y (by omega) (by omega)
  · exact stackC_eq (fun j => codesU (gB i x2 x3 x4 x5 j)) 6 x y (by omega) (by omega)
  · exact stackC_eq (fun j => codesU (gB i x2 x3 x4 x5 j)) 5 x y (by omega) (by omega)
  · exact stackC_eq (fun j => codesU (gB i x2 x3 x4 x5 j)) 4 x y (by omega) (by omega)
  · exact stackC_eq (fun j => codesU (gB i x2 x3 x4 x5 j)) 3 x y (by omega) (by omega)
  · exact stackC_eq (fun j => codesU (gB i x2 x3 x4 x5 j)) 2 x y (by omega) (by omega)
  · exact stackC_eq (fun j => codesU (gB i x2 x3 x4 x5 j)) 1 x y (by omega) (by omega)
  · exact stackC_eq (fun j => codesU (gB i x2 x3 x4 x5 j)) 0 x y (by omega) (by omega)

/-- Case A: the scales stored at the point. -/
theorem out_A_9 (hc0 : cond0_0 i) (hc1 : ¬cond0_1 i) (y : S1x10x1024.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6  y = stackS (fun j => scaleU (expU (yU (gB i x2 x3 x4 x5 j)))) y := by
  frame_out
  canon_tiles x h
  · exact stackS_eq (fun j => scaleU (expU (yU (gB i x2 x3 x4 x5 j)))) 9 x y (by omega) (by omega)
  · exact stackS_eq (fun j => scaleU (expU (yU (gB i x2 x3 x4 x5 j)))) 8 x y (by omega) (by omega)
  · exact stackS_eq (fun j => scaleU (expU (yU (gB i x2 x3 x4 x5 j)))) 7 x y (by omega) (by omega)
  · exact stackS_eq (fun j => scaleU (expU (yU (gB i x2 x3 x4 x5 j)))) 6 x y (by omega) (by omega)
  · exact stackS_eq (fun j => scaleU (expU (yU (gB i x2 x3 x4 x5 j)))) 5 x y (by omega) (by omega)
  · exact stackS_eq (fun j => scaleU (expU (yU (gB i x2 x3 x4 x5 j)))) 4 x y (by omega) (by omega)
  · exact stackS_eq (fun j => scaleU (expU (yU (gB i x2 x3 x4 x5 j)))) 3 x y (by omega) (by omega)
  · exact stackS_eq (fun j => scaleU (expU (yU (gB i x2 x3 x4 x5 j)))) 2 x y (by omega) (by omega)
  · exact stackS_eq (fun j => scaleU (expU (yU (gB i x2 x3 x4 x5 j)))) 1 x y (by omega) (by omega)
  · exact stackS_eq (fun j => scaleU (expU (yU (gB i x2 x3 x4 x5 j)))) 0 x y (by omega) (by omega)

/-- Case B: the scales stored at the point. -/
theorem out_B_9 (hc0 : ¬cond0_0 i) (hc1 : ¬cond0_1 i) (y : S1x10x1024.Idx) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = stackS (fun j => scaleU (expU (yU (gB i x2 x3 x4 x5 j)))) y := by
  frame_out
  canon_tiles x h
  · exact stackS_eq (fun j => scaleU (expU (yU (gB i x2 x3 x4 x5 j)))) 9 x y (by omega) (by omega)
  · exact stackS_eq (fun j => scaleU (expU (yU (gB i x2 x3 x4 x5 j)))) 8 x y (by omega) (by omega)
  · exact stackS_eq (fun j => scaleU (expU (yU (gB i x2 x3 x4 x5 j)))) 7 x y (by omega) (by omega)
  · exact stackS_eq (fun j => scaleU (expU (yU (gB i x2 x3 x4 x5 j)))) 6 x y (by omega) (by omega)
  · exact stackS_eq (fun j => scaleU (expU (yU (gB i x2 x3 x4 x5 j)))) 5 x y (by omega) (by omega)
  · exact stackS_eq (fun j => scaleU (expU (yU (gB i x2 x3 x4 x5 j)))) 4 x y (by omega) (by omega)
  · exact stackS_eq (fun j => scaleU (expU (yU (gB i x2 x3 x4 x5 j)))) 3 x y (by omega) (by omega)
  · exact stackS_eq (fun j => scaleU (expU (yU (gB i x2 x3 x4 x5 j)))) 2 x y (by omega) (by omega)
  · exact stackS_eq (fun j => scaleU (expU (yU (gB i x2 x3 x4 x5 j)))) 1 x y (by omega) (by omega)
  · exact stackS_eq (fun j => scaleU (expU (yU (gB i x2 x3 x4 x5 j)))) 0 x y (by omega) (by omega)

/-- Case C: the scales stored at the point. -/
theorem out_C_9 (hc0 : ¬cond0_0 i) (hc1 : cond0_1 i) (y : S1x10x1024.Idx) : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = stackS (fun j => scaleU (expU (yU (gB i x2 x3 x4 x5 j)))) y := by
  frame_out
  canon_tiles x h
  · exact stackS_eq (fun j => scaleU (expU (yU (gB i x2 x3 x4 x5 j)))) 9 x y (by omega) (by omega)
  · exact stackS_eq (fun j => scaleU (expU (yU (gB i x2 x3 x4 x5 j)))) 8 x y (by omega) (by omega)
  · exact stackS_eq (fun j => scaleU (expU (yU (gB i x2 x3 x4 x5 j)))) 7 x y (by omega) (by omega)
  · exact stackS_eq (fun j => scaleU (expU (yU (gB i x2 x3 x4 x5 j)))) 6 x y (by omega) (by omega)
  · exact stackS_eq (fun j => scaleU (expU (yU (gB i x2 x3 x4 x5 j)))) 5 x y (by omega) (by omega)
  · exact stackS_eq (fun j => scaleU (expU (yU (gB i x2 x3 x4 x5 j)))) 4 x y (by omega) (by omega)
  · exact stackS_eq (fun j => scaleU (expU (yU (gB i x2 x3 x4 x5 j)))) 3 x y (by omega) (by omega)
  · exact stackS_eq (fun j => scaleU (expU (yU (gB i x2 x3 x4 x5 j)))) 2 x y (by omega) (by omega)
  · exact stackS_eq (fun j => scaleU (expU (yU (gB i x2 x3 x4 x5 j)))) 1 x y (by omega) (by omega)
  · exact stackS_eq (fun j => scaleU (expU (yU (gB i x2 x3 x4 x5 j)))) 0 x y (by omega) (by omega)

/-- Case A: the gradient of the head stored at the point. -/
theorem out_A_7 (hc0 : cond0_0 i) (hc1 : ¬cond0_1 i) (y : S1280x1280.Idx) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6  y = dwB (fun j => gdU (gB i x2 x3 x4 x5 j)) x6 y := by
  frame_out
  canon_tiles x h
  · exact dwB_eq arg14.view (fun j => gdU (gB i x2 x3 x4 x5 j)) x6 4 _ x y (by omega) (by omega)
  · exact dwB_eq arg14.view (fun j => gdU (gB i x2 x3 x4 x5 j)) x6 3 _ x y (by omega) (by omega)
  · exact dwB_eq arg14.view (fun j => gdU (gB i x2 x3 x4 x5 j)) x6 2 _ x y (by omega) (by omega)
  · exact dwB_eq arg14.view (fun j => gdU (gB i x2 x3 x4 x5 j)) x6 1 _ x y (by omega) (by omega)
  · exact dwB_eq arg14.view (fun j => gdU (gB i x2 x3 x4 x5 j)) x6 0 _ x y (by omega) (by omega)

/-- Case A: the gradient of the activations after the point. -/
theorem out_A_10 (hc0 : cond0_0 i) (hc1 : ¬cond0_1 i) (y : S1280x1024.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6  y = dhtB (fun j => grpW j x1) (wsB i x0) (fun j => gdU (gB i x2 x3 x4 x5 j)) (broadcast S1280x1024 (FloatOps.ofBits (F := Ideal) .f32 0#32)) y := by
  frame_out
  exact dht_step arg14.view (fun j => grpW j x1) (wsB i x0) (fun j => gdU (gB i x2 x3 x4 x5 j)) (broadcast S1280x1024 (FloatOps.ofBits (F := Ideal) .f32 0#32)) y

/-- Case A: the accumulator of the labels' logits after the point. -/
theorem sout_A (hc0 : cond0_0 i) (hc1 : ¬cond0_1 i) (y : S8x1024.Idx) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6  y = tgtB (tB i x2 x4) (shapeCast S8x1024 (broadcast S8x1024 (FloatOps.ofBits (F := Ideal) .f32 0#32)) shapeCasts_S8x1024_S8x1024) y := by
  frame_out
  rfl

/-- Case B: the gradient of the head stored at the point. -/
theorem out_B_7 (hc0 : ¬cond0_0 i) (hc1 : ¬cond0_1 i) (y : S1280x1280.Idx) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = dwB (fun j => gdU (gB i x2 x3 x4 x5 j)) x6 y := by
  frame_out
  canon_tiles x h
  · exact dwB_eq arg14.view (fun j => gdU (gB i x2 x3 x4 x5 j)) x6 4 _ x y (by omega) (by omega)
  · exact dwB_eq arg14.view (fun j => gdU (gB i x2 x3 x4 x5 j)) x6 3 _ x y (by omega) (by omega)
  · exact dwB_eq arg14.view (fun j => gdU (gB i x2 x3 x4 x5 j)) x6 2 _ x y (by omega) (by omega)
  · exact dwB_eq arg14.view (fun j => gdU (gB i x2 x3 x4 x5 j)) x6 1 _ x y (by omega) (by omega)
  · exact dwB_eq arg14.view (fun j => gdU (gB i x2 x3 x4 x5 j)) x6 0 _ x y (by omega) (by omega)

/-- Case B: the gradient of the activations after the point. -/
theorem out_B_10 (hc0 : ¬cond0_0 i) (hc1 : ¬cond0_1 i) (y : S1280x1024.Idx) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = dhtB (fun j => grpW j x1) (wsB i x0) (fun j => gdU (gB i x2 x3 x4 x5 j)) xo10 y := by
  frame_out
  exact dht_step arg14.view (fun j => grpW j x1) (wsB i x0) (fun j => gdU (gB i x2 x3 x4 x5 j)) xo10 y

/-- Case B: the accumulator of the labels' logits after the point. -/
theorem sout_B (hc0 : ¬cond0_0 i) (hc1 : ¬cond0_1 i) (y : S8x1024.Idx) : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = tgtB (tB i x2 x4) xs1 y := by
  frame_out
  rfl

/-- Case C: the gradient of the head stored at the point. -/
theorem out_C_7 (hc0 : ¬cond0_0 i) (hc1 : cond0_1 i) (y : S1280x1280.Idx) : out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = dwB (fun j => gdU (gB i x2 x3 x4 x5 j)) x6 y := by
  frame_out
  canon_tiles x h
  · exact dwB_eq arg14.view (fun j => gdU (gB i x2 x3 x4 x5 j)) x6 4 _ x y (by omega) (by omega)
  · exact dwB_eq arg14.view (fun j => gdU (gB i x2 x3 x4 x5 j)) x6 3 _ x y (by omega) (by omega)
  · exact dwB_eq arg14.view (fun j => gdU (gB i x2 x3 x4 x5 j)) x6 2 _ x y (by omega) (by omega)
  · exact dwB_eq arg14.view (fun j => gdU (gB i x2 x3 x4 x5 j)) x6 1 _ x y (by omega) (by omega)
  · exact dwB_eq arg14.view (fun j => gdU (gB i x2 x3 x4 x5 j)) x6 0 _ x y (by omega) (by omega)

/-- Case C: the gradient of the activations after the point. -/
theorem out_C_10 (hc0 : ¬cond0_0 i) (hc1 : cond0_1 i) (y : S1280x1024.Idx) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = dhtB (fun j => grpW j x1) (wsB i x0) (fun j => gdU (gB i x2 x3 x4 x5 j)) xo10 y := by
  frame_out
  exact dht_step arg14.view (fun j => grpW j x1) (wsB i x0) (fun j => gdU (gB i x2 x3 x4 x5 j)) xo10 y

/-- Case C: the loss of each token stored at the last point. -/
theorem out_C_11 (hc0 : ¬cond0_0 i) (hc1 : cond0_1 i) (y : S1x1024.Idx) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs1 y = k0_pay1 (F := Ideal) (View.ld x3 (Rect.unit (s := S8x1024) ![0, 0] S1x1024.size inb_S8x1024_S1x1024_0_0)) (sitofp .f32 x5) (tgtB (tB i x2 x4) xs1) y := by
  frame_out
  rfl

end Out

end Cert.BwdIdeal.Value

end
-- ==== Proof.BwdValue.lean ====
/- What the backward call's output arrays hold after the run, as a fold of one grid point's step over the points. -/
module

public import proofs.«01_k».proof.Proof.BwdFrame
public import Idealize.ShloMosaic.Lib.Pipeline.Value

@[expose] public section

noncomputable section

namespace Cert.BwdIdeal.Value

open Cert.BwdIdeal Cert.BwdIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 25 = 0) (h1 : ¬t.val % 25 = 24) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 25 = 0) (h1 : ¬t.val % 25 = 24) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 25 = 0) (h1 : t.val % 25 = 24) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed7, outsAt0_C m c t h0 h1]

/-- The index map sends distinct grid points to distinct block indices (decided over the 25 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S32000x1280.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 25 = 0) (h1 : ¬t.val % 25 = 24) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 25 = 0) (h1 : ¬t.val % 25 = 24) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed8, outsAt0_B m c t h0 h1]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 25 = 0) (h1 : t.val % 25 = 24) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed8, outsAt0_C m c t h0 h1]

/-- The index map sends distinct grid points to distinct block indices (decided over the 25 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S5x1024x6400.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 25 = 0) (h1 : ¬t.val % 25 = 24) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 25 = 0) (h1 : ¬t.val % 25 = 24) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed9, outsAt0_B m c t h0 h1]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 25 = 0) (h1 : t.val % 25 = 24) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed9, outsAt0_C m c t h0 h1]

/-- The index map sends distinct grid points to distinct block indices (decided over the 25 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S25x10x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 3), read through the window's block. -/
theorem flushed10 (c : Dev nD) (t : Fin cfg0.N) :
    (dats m 0 c).flushed 10 t = (cfg0.win 10).cut (grid0.coords t) ((outsAt0 m c t.val t.isLt).2.2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 25 = 0) (h1 : ¬t.val % 25 = 24) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 25 = 0) (h1 : ¬t.val % 25 = 24) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed10, outsAt0_B m c t h0 h1]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 25 = 0) (h1 : t.val % 25 = 24) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed10, outsAt0_C m c t h0 h1]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S1280x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 4), read through the window's block. -/
theorem flushed11 (c : Dev nD) (t : Fin cfg0.N) :
    (dats m 0 c).flushed 11 t = (cfg0.win 11).cut (grid0.coords t) ((outsAt0 m c t.val t.isLt).2.2.2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 25 = 0) (h1 : ¬t.val % 25 = 24) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  simp only [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 25 = 0) (h1 : ¬t.val % 25 = 24) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed11, outsAt0_B m c t h0 h1]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 25 = 0) (h1 : t.val % 25 = 24) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  simp only [flushed11, outsAt0_C m c t h0 h1]

-- no `blocks11`: window 11's index map revisits a block index, or its points could not be enumerated here;
-- the final array is still the frame's `arrAt`, to read with Lib/Pipeline/Value.lean's lemmas by hand

/-- An index that no flushing point's block covers keeps output window 11's array contents at region entry. -/
theorem entry11 (c : Dev nD) (i : S1x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 13) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 7's array is `(dats m 0 c).arrAt 7 N`. -/
theorem post7 (r : PUnit × MemSt nD τ sig (Elt F)) (h : Pipeline.RDat.FramePost (cfgs 0) (fun c => (dats m 0 c).toRForget forgets0) (V m) r) (c : Dev nD) :
    r.2.mem ((c : Thread nD τ).loc main_v0_0) = (dats m 0 c).arrAt 7 cfg0.N :=
  finalR_out0 m r h c 7 forgets0_7

/-- After the frame run, output window 8's array is `(dats m 0 c).arrAt 8 N`. -/
theorem post8 (r : PUnit × MemSt nD τ sig (Elt F)) (h : Pipeline.RDat.FramePost (cfgs 0) (fun c => (dats m 0 c).toRForget forgets0) (V m) r) (c : Dev nD) :
    r.2.mem ((c : Thread nD τ).loc main_v0_1) = (dats m 0 c).arrAt 8 cfg0.N :=
  finalR_out0 m r h c 8 forgets0_8

/-- After the frame run, output window 9's array is `(dats m 0 c).arrAt 9 N`. -/
theorem post9 (r : PUnit × MemSt nD τ sig (Elt F)) (h : Pipeline.RDat.FramePost (cfgs 0) (fun c => (dats m 0 c).toRForget forgets0) (V m) r) (c : Dev nD) :
    r.2.mem ((c : Thread nD τ).loc main_v0_2) = (dats m 0 c).arrAt 9 cfg0.N :=
  finalR_out0 m r h c 9 forgets0_9

/-- After the frame run, output window 10's array is `(dats m 0 c).arrAt 10 N`. -/
theorem post10 (r : PUnit × MemSt nD τ sig (Elt F)) (h : Pipeline.RDat.FramePost (cfgs 0) (fun c => (dats m 0 c).toRForget forgets0) (V m) r) (c : Dev nD) :
    r.2.mem ((c : Thread nD τ).loc main_v0_3) = (dats m 0 c).arrAt 10 cfg0.N :=
  finalR_out0 m r h c 10 forgets0_10

/-- After the frame run, output window 11's array is `(dats m 0 c).arrAt 11 N`. -/
theorem post11 (r : PUnit × MemSt nD τ sig (Elt F)) (h : Pipeline.RDat.FramePost (cfgs 0) (fun c => (dats m 0 c).toRForget forgets0) (V m) r) (c : Dev nD) :
    r.2.mem ((c : Thread nD τ).loc main_v0_4) = (dats m 0 c).arrAt 11 cfg0.N :=
  finalR_out0 m r h c 11 forgets0_11

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: input window 1 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- After the frame run, argument `main_arg2` is as launched: input window 2 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

/-- After the frame run, argument `main_arg3` is as launched: input window 3 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- After the frame run, argument `main_arg4` is as launched: input window 4 stages it and never writes it back. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  (Pipeline.RDat.FramePost.arr_in h c 4 rfl).trans ((A_eq m c 4).trans (V_main_arg4 m c))

/-- After the frame run, argument `main_arg5` is as launched: input window 5 stages it and never writes it back. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 5 rfl).trans ((A_eq m c 5).trans (V_main_arg5 m c))

/-- After the frame run, argument `main_arg6` is as launched: input window 6 stages it and never writes it back. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  (Pipeline.RDat.FramePost.arr_in h c 6 rfl).trans ((A_eq m c 6).trans (V_main_arg6 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_v0_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S8x1024 .f32) : Vec F S8x1024 .f32 :=
  if h0 : n % 25 = 0 then
    if h1 : n % 25 = 24 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    if h1 : n % 25 = 24 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 1 HOLDS after point `t`: the fold of its run up to `t`, from the reset at the run's first point
    `25·(t / 25)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2 = Pipeline.accAt (fun n h => scAt0_1 m c n h (VS0_1.read (Elt F) VS0_1.junk)) (scAt0_1 m c) (25 * (t.val / 25)) (t.val % 25)
      (by have h1 := t.isLt; have h2 := Nat.div_add_mod t.val 25; omega) :=
  Pipeline.eq_accAt_of_mod (fun n h => (outsAt0 m c n h).2.2.2.2.2) 25 (fun n h => scAt0_1 m c n h (VS0_1.read (Elt F) VS0_1.junk)) (scAt0_1 m c)
    (fun n h hn => by
      have hN := lt_of_lt_of_eq h (show cfg0.N = 25 from N_0)
      by_cases h0 : n % 25 = 0 <;> by_cases h1 : n % 25 = 24
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 25 from N_0)
      by_cases h0 : (n + 1) % 25 = 0 <;> by_cases h1 : (n + 1) % 25 = 24
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 25 from N_0)
  have hd : n / 25 = 0 := Nat.div_eq_of_lt hN
  have hm : n % 25 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1280x1280 .f32 × Vec F S1x1024x1280 .fp8e5m2 × Vec F S1x10x1024 .f32 × Vec F S1280x1024 .f32 × Vec F S1x1024 .f32 × Vec F S8x1024 .f32 :=
  ((VO0_7.read (Elt F) VO0_7.junk, VO0_8.read (Elt F) VO0_8.junk, VO0_9.read (Elt F) VO0_9.junk, VO0_10.read (Elt F) VO0_10.junk, VO0_11.read (Elt F) VO0_11.junk, VS0_1.read (Elt F) VS0_1.junk) : Vec F S1280x1280 .f32 × Vec F S1x1024x1280 .fp8e5m2 × Vec F S1x10x1024 .f32 × Vec F S1280x1024 .f32 × Vec F S1x1024 .f32 × Vec F S8x1024 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1280x1280 .f32 × Vec F S1x1024x1280 .fp8e5m2 × Vec F S1x10x1024 .f32 × Vec F S1280x1024 .f32 × Vec F S1x1024 .f32 × Vec F S8x1024 .f32) : Vec F S1280x1280 .f32 × Vec F S1x1024x1280 .fp8e5m2 × Vec F S1x10x1024 .f32 × Vec F S1280x1024 .f32 × Vec F S1x1024 .f32 × Vec F S8x1024 .f32 :=
  if h0 : n % 25 = 0 then
    if h1 : n % 25 = 24 then
      False.elim (by have hN : n < 25 := lt_of_lt_of_eq hb (show cfg0.N = 25 from N_0); omega)
    else
      (out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)))
  else
    if h1 : n % 25 = 24 then
      (out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_C_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_C_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_C_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2)
    else
      (out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.2)

/-- `stAt0` at a point of case A: that case's contents. -/
theorem stAt0_A (c : Dev nD) (t : Fin cfg0.N) (acc : Vec F S1280x1280 .f32 × Vec F S1x1024x1280 .fp8e5m2 × Vec F S1x10x1024 .f32 × Vec F S1280x1024 .f32 × Vec F S1x1024 .f32 × Vec F S8x1024 .f32) (h0 : t.val % 25 = 0) (h1 : ¬t.val % 25 = 24) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) :=
  (dif_pos h0).trans ((dif_neg h1).trans rfl)

/-- `stAt0` at a point of case B: that case's contents, over `acc`. -/
theorem stAt0_B (c : Dev nD) (t : Fin cfg0.N) (acc : Vec F S1280x1280 .f32 × Vec F S1x1024x1280 .fp8e5m2 × Vec F S1x10x1024 .f32 × Vec F S1280x1024 .f32 × Vec F S1x1024 .f32 × Vec F S8x1024 .f32) (h0 : ¬t.val % 25 = 0) (h1 : ¬t.val % 25 = 24) :
    stAt0 m c t.val t.isLt acc = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.2) :=
  (dif_neg h0).trans ((dif_neg h1).trans rfl)

/-- `stAt0` at a point of case C: that case's contents, over `acc`. -/
theorem stAt0_C (c : Dev nD) (t : Fin cfg0.N) (acc : Vec F S1280x1280 .f32 × Vec F S1x1024x1280 .fp8e5m2 × Vec F S1x10x1024 .f32 × Vec F S1280x1024 .f32 × Vec F S1x1024 .f32 × Vec F S8x1024 .f32) (h0 : ¬t.val % 25 = 0) (h1 : t.val % 25 = 24) :
    stAt0 m c t.val t.isLt acc = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 25 from N_0)
  have e := Pipeline.eq_accAt_of_mod (fun n h => outsAt0 m c n h) 25 (fun n h => stAt0 m c n h junk0) (stAt0 m c)
    (fun n h _ => by
      have hN := lt_of_lt_of_eq h (show cfg0.N = 25 from N_0)
      obtain rfl : n = 0 := by omega
      exact outsAt0_zero m c h)
    (fun n h _ => outsAt0_succ m c n h)
    (by decide) n hn (by have := Nat.div_add_mod n 25; omega)
  have hd : n / 25 = 0 := Nat.div_eq_of_lt hN
  have hm : n % 25 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one per point),
    `i`'s place in it, and the point that writes it back. -/
abbrev run7Of (i : S32000x1280.Idx) : ℕ := 1 * ((i 0).val / 1280 - 0) + 1 * ((i 1).val / 1280 - 0)
set_option backward.proofsInPublic true in
abbrev loc7Of (i : S32000x1280.Idx) : S1280x1280.Idx := fun a => match a with
  | ⟨0, _⟩ => ⟨(i 0).val % 1280, Nat.mod_lt _ (by decide)⟩
  | ⟨1, _⟩ => ⟨(i 1).val % 1280, Nat.mod_lt _ (by decide)⟩
abbrev pt7Of (i : S32000x1280.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v0_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 2) ∧ win0_7.index t (0 : Fin 2) ≤ 24
    ∧ 0 ≤ win0_7.index t (1 : Fin 2) ∧ win0_7.index t (1 : Fin 2) ≤ 0
    ∧ 1 * (win0_7.index t (0 : Fin 2) - 0) + 1 * (win0_7.index t (1 : Fin 2) - 0) = t.val :=
  (by decide +kernel : ∀ t : Fin grid0.N, _)

/-- Every block of the box is SOME flushing point's: `onto7Pt`, the point that writes back the block at place `q` of the box. -/
abbrev onto7Pt (q0 : Fin 25) (q1 : Fin 1) : Fin grid0.N :=
  ⟨1 * q0.val + 1 * q1.val, lt_of_lt_of_eq (by omega) N_0.symm⟩
theorem idx_onto7 : ∀ (q0 : Fin 25) (q1 : Fin 1), ∃ t : Fin cfg0.N, (cfg0.win 7).flush t = true ∧ win0_7.index t = ![q0.val + 0, q1.val + 0] :=
  fun q0 q1 => ⟨onto7Pt q0 q1, (by decide +kernel : ∀ (q0 : Fin 25) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 1280 := (y 0).isLt
  have hy1 : (y 1).val < 1280 := (y 1).isLt
  have hb0 : (((cfg0.win 7).blk t).view.emb y 0).val = win0_7.index t (0 : Fin 2) * 1280 + 1 * (y 0).val := rfl
  have hb1 : (((cfg0.win 7).blk t).view.emb y 1).val = win0_7.index t (1 : Fin 2) * 1280 + 1 * (y 1).val := rfl
  have hr : run7Of (((cfg0.win 7).blk t).view.emb y) = t.val := by
    show 1 * ((((cfg0.win 7).blk t).view.emb y 0).val / 1280 - 0) + 1 * ((((cfg0.win 7).blk t).view.emb y 1).val / 1280 - 0) = _
    rw [hb0, hb1]
    rw [show (win0_7.index t (0 : Fin 2) * 1280 + 1 * (y 0).val) / 1280 = win0_7.index t (0 : Fin 2) from by omega]; rw [show (win0_7.index t (1 : Fin 2) * 1280 + 1 * (y 1).val) / 1280 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1280 = (y 0).val; rw [hb0]; omega
    | ⟨1, _⟩ => show (((cfg0.win 7).blk t).view.emb y 1).val % 1280 = (y 1).val; rw [hb1]; omega
  have hp : pt7Of (((cfg0.win 7).blk t).view.emb y) = t.val := by
    exact hr
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S32000x1280.Idx) :
    i ∈ ((cfg0.win 7).blk t).view.set ↔ ∀ a : Fin 2, win0_7.index t a * S1280x1280.size a ≤ (i a).val ∧ (i a).val < win0_7.index t a * S1280x1280.size a + S1280x1280.size a := by
  show i ∈ ((View.whole main_v0_0).slice (win0_7.rect t)).set ↔ _
  rw [View.set_slice_whole, Rect.mem_set_unit]
  exact Iff.rfl

/-- THE COVERED INDICES: in some flushing point's block iff inside the box those blocks fill. -/
theorem covered_iff7 (i : S32000x1280.Idx) :
    (∃ t : Fin cfg0.N, (cfg0.win 7).flush t = true ∧ i ∈ ((cfg0.win 7).blk t).view.set) ↔ 0 ≤ (i 0).val ∧ (i 0).val < 32000 ∧ 0 ≤ (i 1).val ∧ (i 1).val < 1280 := by
  constructor
  · rintro ⟨t, -, hi⟩
    rw [mem_blk7] at hi
    have b0 : win0_7.index t (0 : Fin 2) * 1280 ≤ (i 0).val ∧ (i 0).val < win0_7.index t (0 : Fin 2) * 1280 + 1280 := hi 0
    have b1 : win0_7.index t (1 : Fin 2) * 1280 ≤ (i 1).val ∧ (i 1).val < win0_7.index t (1 : Fin 2) * 1280 + 1280 := hi 1
    obtain ⟨e0, e1, e2⟩ := idx_facts7 t
    omega
  · intro h
    have hi0 : (i 0).val < 32000 := (i 0).isLt
    have hi1 : (i 1).val < 1280 := (i 1).isLt
    obtain ⟨t, hft, ht⟩ := idx_onto7 ⟨(i 0).val / 1280 - 0, by omega⟩ ⟨(i 1).val / 1280 - 0, by omega⟩
    have q0 : win0_7.index t (0 : Fin 2) = (i 0).val / 1280 - 0 + 0 := congrFun ht 0
    have q1 : win0_7.index t (1 : Fin 2) = (i 1).val / 1280 - 0 + 0 := congrFun ht 1
    refine ⟨t, hft, ?_⟩
    rw [mem_blk7]
    intro a
    match a with
    | ⟨0, _⟩ => show win0_7.index t (0 : Fin 2) * 1280 ≤ (i 0).val ∧ (i 0).val < win0_7.index t (0 : Fin 2) * 1280 + 1280; omega
    | ⟨1, _⟩ => show win0_7.index t (1 : Fin 2) * 1280 ≤ (i 1).val ∧ (i 1).val < win0_7.index t (1 : Fin 2) * 1280 + 1280; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 32000 := (i 0).isLt; have h1 : (i 1).val < 1280 := (i 1).isLt; omega))

/-! ## Output window 8 -/

/-- The block of the array that holds index `i`, numbered in the order the points write the blocks back (one per point),
    `i`'s place in it, and the point that writes it back. -/
abbrev run8Of (i : S5x1024x6400.Idx) : ℕ := 5 * ((i 0).val / 1 - 0) + 5 * ((i 1).val / 1024 - 0) + 1 * ((i 2).val / 1280 - 0)
set_option backward.proofsInPublic true in
abbrev loc8Of (i : S5x1024x6400.Idx) : S1x1024x1280.Idx := fun a => match a with
  | ⟨0, _⟩ => ⟨(i 0).val % 1, Nat.mod_lt _ (by decide)⟩
  | ⟨1, _⟩ => ⟨(i 1).val % 1024, Nat.mod_lt _ (by decide)⟩
  | ⟨2, _⟩ => ⟨(i 2).val % 1280, Nat.mod_lt _ (by decide)⟩
abbrev pt8Of (i : S5x1024x6400.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v0_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 4
    ∧ 0 ≤ win0_8.index t (1 : Fin 3) ∧ win0_8.index t (1 : Fin 3) ≤ 0
    ∧ 0 ≤ win0_8.index t (2 : Fin 3) ∧ win0_8.index t (2 : Fin 3) ≤ 4
    ∧ 5 * (win0_8.index t (0 : Fin 3) - 0) + 5 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 5) (q1 : Fin 1) (q2 : Fin 5) : Fin grid0.N :=
  ⟨5 * q0.val + 5 * q1.val + 1 * q2.val, lt_of_lt_of_eq (by omega) N_0.symm⟩
theorem idx_onto8 : ∀ (q0 : Fin 5) (q1 : Fin 1) (q2 : Fin 5), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 5) (q1 : Fin 1) (q2 : Fin 5), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 1024 := (y 1).isLt
  have hy2 : (y 2).val < 1280 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 1024 + 1 * (y 1).val := rfl
  have hb2 : (((cfg0.win 8).blk t).view.emb y 2).val = win0_8.index t (2 : Fin 3) * 1280 + 1 * (y 2).val := rfl
  have hr : run8Of (((cfg0.win 8).blk t).view.emb y) = t.val := by
    show 5 * ((((cfg0.win 8).blk t).view.emb y 0).val / 1 - 0) + 5 * ((((cfg0.win 8).blk t).view.emb y 1).val / 1024 - 0) + 1 * ((((cfg0.win 8).blk t).view.emb y 2).val / 1280 - 0) = _
    rw [hb0, hb1, hb2]
    rw [show (win0_8.index t (0 : Fin 3) * 1 + 1 * (y 0).val) / 1 = win0_8.index t (0 : Fin 3) from by omega]; rw [show (win0_8.index t (1 : Fin 3) * 1024 + 1 * (y 1).val) / 1024 = win0_8.index t (1 : Fin 3) from by omega]; rw [show (win0_8.index t (2 : Fin 3) * 1280 + 1 * (y 2).val) / 1280 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 1024 = (y 1).val; rw [hb1]; omega
    | ⟨2, _⟩ => show (((cfg0.win 8).blk t).view.emb y 2).val % 1280 = (y 2).val; rw [hb2]; omega
  have hp : pt8Of (((cfg0.win 8).blk t).view.emb y) = t.val := by
    exact hr
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S5x1024x6400.Idx) :
    i ∈ ((cfg0.win 8).blk t).view.set ↔ ∀ a : Fin 3, win0_8.index t a * S1x1024x1280.size a ≤ (i a).val ∧ (i a).val < win0_8.index t a * S1x1024x1280.size a + S1x1024x1280.size a := by
  show i ∈ ((View.whole main_v0_1).slice (win0_8.rect t)).set ↔ _
  rw [View.set_slice_whole, Rect.mem_set_unit]
  exact Iff.rfl

/-- THE COVERED INDICES: in some flushing point's block iff inside the box those blocks fill. -/
theorem covered_iff8 (i : S5x1024x6400.Idx) :
    (∃ t : Fin cfg0.N, (cfg0.win 8).flush t = true ∧ i ∈ ((cfg0.win 8).blk t).view.set) ↔ 0 ≤ (i 0).val ∧ (i 0).val < 5 ∧ 0 ≤ (i 1).val ∧ (i 1).val < 1024 ∧ 0 ≤ (i 2).val ∧ (i 2).val < 6400 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 1024 ≤ (i 1).val ∧ (i 1).val < win0_8.index t (1 : Fin 3) * 1024 + 1024 := hi 1
    have b2 : win0_8.index t (2 : Fin 3) * 1280 ≤ (i 2).val ∧ (i 2).val < win0_8.index t (2 : Fin 3) * 1280 + 1280 := hi 2
    obtain ⟨e0, e1, e2, e3⟩ := idx_facts8 t
    omega
  · intro h
    have hi0 : (i 0).val < 5 := (i 0).isLt
    have hi1 : (i 1).val < 1024 := (i 1).isLt
    have hi2 : (i 2).val < 6400 := (i 2).isLt
    obtain ⟨t, hft, ht⟩ := idx_onto8 ⟨(i 0).val / 1 - 0, by omega⟩ ⟨(i 1).val / 1024 - 0, by omega⟩ ⟨(i 2).val / 1280 - 0, by omega⟩
    have q0 : win0_8.index t (0 : Fin 3) = (i 0).val / 1 - 0 + 0 := congrFun ht 0
    have q1 : win0_8.index t (1 : Fin 3) = (i 1).val / 1024 - 0 + 0 := congrFun ht 1
    have q2 : win0_8.index t (2 : Fin 3) = (i 2).val / 1280 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 1024 ≤ (i 1).val ∧ (i 1).val < win0_8.index t (1 : Fin 3) * 1024 + 1024; omega
    | ⟨2, _⟩ => show win0_8.index t (2 : Fin 3) * 1280 ≤ (i 2).val ∧ (i 2).val < win0_8.index t (2 : Fin 3) * 1280 + 1280; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 5 := (i 0).isLt; have h1 : (i 1).val < 1024 := (i 1).isLt; have h2 : (i 2).val < 6400 := (i 2).isLt; omega))

/-! ## Output window 9 -/

/-- The block of the array that holds index `i`, numbered in the order the points write the blocks back (one per point),
    `i`'s place in it, and the point that writes it back. -/
abbrev run9Of (i : S25x10x1024.Idx) : ℕ := 1 * ((i 0).val / 1 - 0) + 1 * ((i 1).val / 10 - 0) + 1 * ((i 2).val / 1024 - 0)
set_option backward.proofsInPublic true in
abbrev loc9Of (i : S25x10x1024.Idx) : S1x10x1024.Idx := fun a => match a with
  | ⟨0, _⟩ => ⟨(i 0).val % 1, Nat.mod_lt _ (by decide)⟩
  | ⟨1, _⟩ => ⟨(i 1).val % 10, Nat.mod_lt _ (by decide)⟩
  | ⟨2, _⟩ => ⟨(i 2).val % 1024, Nat.mod_lt _ (by decide)⟩
abbrev pt9Of (i : S25x10x1024.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v0_2) := fun i =>
  if h : pt9Of i < cfg0.N then
    (Pipeline.accAt (fun n h => stAt0 m c n h junk0) (stAt0 m c) 0 (pt9Of i) (by omega)).2.2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 3) ∧ win0_9.index t (0 : Fin 3) ≤ 24
    ∧ 0 ≤ win0_9.index t (1 : Fin 3) ∧ win0_9.index t (1 : Fin 3) ≤ 0
    ∧ 0 ≤ win0_9.index t (2 : Fin 3) ∧ win0_9.index t (2 : Fin 3) ≤ 0
    ∧ 1 * (win0_9.index t (0 : Fin 3) - 0) + 1 * (win0_9.index t (1 : Fin 3) - 0) + 1 * (win0_9.index t (2 : Fin 3) - 0) = t.val :=
  (by decide +kernel : ∀ t : Fin grid0.N, _)

/-- Every block of the box is SOME flushing point's: `onto9Pt`, the point that writes back the block at place `q` of the box. -/
abbrev onto9Pt (q0 : Fin 25) (q1 : Fin 1) (q2 : Fin 1) : Fin grid0.N :=
  ⟨1 * q0.val + 1 * q1.val + 1 * q2.val, lt_of_lt_of_eq (by omega) N_0.symm⟩
theorem idx_onto9 : ∀ (q0 : Fin 25) (q1 : Fin 1) (q2 : Fin 1), ∃ t : Fin cfg0.N, (cfg0.win 9).flush t = true ∧ win0_9.index t = ![q0.val + 0, q1.val + 0, q2.val + 0] :=
  fun q0 q1 q2 => ⟨onto9Pt q0 q1 q2, (by decide +kernel : ∀ (q0 : Fin 25) (q1 : Fin 1) (q2 : Fin 1), win0_9.flush (onto9Pt q0 q1 q2) = true ∧ win0_9.index (onto9Pt q0 q1 q2) = ![q0.val + 0, q1.val + 0, q2.val + 0]) q0 q1 q2⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2, e3⟩ := idx_facts9 t
  funext y
  have hy0 : (y 0).val < 1 := (y 0).isLt
  have hy1 : (y 1).val < 10 := (y 1).isLt
  have hy2 : (y 2).val < 1024 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 10 + 1 * (y 1).val := rfl
  have hb2 : (((cfg0.win 9).blk t).view.emb y 2).val = win0_9.index t (2 : Fin 3) * 1024 + 1 * (y 2).val := rfl
  have hr : run9Of (((cfg0.win 9).blk t).view.emb y) = t.val := by
    show 1 * ((((cfg0.win 9).blk t).view.emb y 0).val / 1 - 0) + 1 * ((((cfg0.win 9).blk t).view.emb y 1).val / 10 - 0) + 1 * ((((cfg0.win 9).blk t).view.emb y 2).val / 1024 - 0) = _
    rw [hb0, hb1, hb2]
    rw [show (win0_9.index t (0 : Fin 3) * 1 + 1 * (y 0).val) / 1 = win0_9.index t (0 : Fin 3) from by omega]; rw [show (win0_9.index t (1 : Fin 3) * 10 + 1 * (y 1).val) / 10 = win0_9.index t (1 : Fin 3) from by omega]; rw [show (win0_9.index t (2 : Fin 3) * 1024 + 1 * (y 2).val) / 1024 = win0_9.index t (2 : Fin 3) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 10 = (y 1).val; rw [hb1]; omega
    | ⟨2, _⟩ => show (((cfg0.win 9).blk t).view.emb y 2).val % 1024 = (y 2).val; rw [hb2]; omega
  have hp : pt9Of (((cfg0.win 9).blk t).view.emb y) = t.val := by
    exact hr
  show (Pipeline.accAt (fun n h => stAt0 m c n h junk0) (stAt0 m c) 0 t.val _).2.2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S25x10x1024.Idx) :
    i ∈ ((cfg0.win 9).blk t).view.set ↔ ∀ a : Fin 3, win0_9.index t a * S1x10x1024.size a ≤ (i a).val ∧ (i a).val < win0_9.index t a * S1x10x1024.size a + S1x10x1024.size a := by
  show i ∈ ((View.whole main_v0_2).slice (win0_9.rect t)).set ↔ _
  rw [View.set_slice_whole, Rect.mem_set_unit]
  exact Iff.rfl

/-- THE COVERED INDICES: in some flushing point's block iff inside the box those blocks fill. -/
theorem covered_iff9 (i : S25x10x1024.Idx) :
    (∃ t : Fin cfg0.N, (cfg0.win 9).flush t = true ∧ i ∈ ((cfg0.win 9).blk t).view.set) ↔ 0 ≤ (i 0).val ∧ (i 0).val < 25 ∧ 0 ≤ (i 1).val ∧ (i 1).val < 10 ∧ 0 ≤ (i 2).val ∧ (i 2).val < 1024 := by
  constructor
  · rintro ⟨t, -, hi⟩
    rw [mem_blk9] at hi
    have b0 : win0_9.index t (0 : Fin 3) * 1 ≤ (i 0).val ∧ (i 0).val < win0_9.index t (0 : Fin 3) * 1 + 1 := hi 0
    have b1 : win0_9.index t (1 : Fin 3) * 10 ≤ (i 1).val ∧ (i 1).val < win0_9.index t (1 : Fin 3) * 10 + 10 := hi 1
    have b2 : win0_9.index t (2 : Fin 3) * 1024 ≤ (i 2).val ∧ (i 2).val < win0_9.index t (2 : Fin 3) * 1024 + 1024 := hi 2
    obtain ⟨e0, e1, e2, e3⟩ := idx_facts9 t
    omega
  · intro h
    have hi0 : (i 0).val < 25 := (i 0).isLt
    have hi1 : (i 1).val < 10 := (i 1).isLt
    have hi2 : (i 2).val < 1024 := (i 2).isLt
    obtain ⟨t, hft, ht⟩ := idx_onto9 ⟨(i 0).val / 1 - 0, by omega⟩ ⟨(i 1).val / 10 - 0, by omega⟩ ⟨(i 2).val / 1024 - 0, by omega⟩
    have q0 : win0_9.index t (0 : Fin 3) = (i 0).val / 1 - 0 + 0 := congrFun ht 0
    have q1 : win0_9.index t (1 : Fin 3) = (i 1).val / 10 - 0 + 0 := congrFun ht 1
    have q2 : win0_9.index t (2 : Fin 3) = (i 2).val / 1024 - 0 + 0 := congrFun ht 2
    refine ⟨t, hft, ?_⟩
    rw [mem_blk9]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 10 ≤ (i 1).val ∧ (i 1).val < win0_9.index t (1 : Fin 3) * 10 + 10; omega
    | ⟨2, _⟩ => show win0_9.index t (2 : Fin 3) * 1024 ≤ (i 2).val ∧ (i 2).val < win0_9.index t (2 : Fin 3) * 1024 + 1024; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 25 := (i 0).isLt; have h1 : (i 1).val < 10 := (i 1).isLt; have h2 : (i 2).val < 1024 := (i 2).isLt; omega))

/-! ## Output window 10 -/

/-- The block of the array that holds index `i`, numbered in the order the points write the blocks back (one every 25 points),
    `i`'s place in it, and the point that writes it back (the last of its 25). -/
abbrev run10Of (i : S1280x1024.Idx) : ℕ := 1 * ((i 0).val / 1280 - 0) + 1 * ((i 1).val / 1024 - 0)
set_option backward.proofsInPublic true in
abbrev loc10Of (i : S1280x1024.Idx) : S1280x1024.Idx := fun a => match a with
  | ⟨0, _⟩ => ⟨(i 0).val % 1280, Nat.mod_lt _ (by decide)⟩
  | ⟨1, _⟩ => ⟨(i 1).val % 1024, Nat.mod_lt _ (by decide)⟩
abbrev pt10Of (i : S1280x1024.Idx) : ℕ := 25 * run10Of i + 24

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v0_3) := fun i =>
  if h : pt10Of i < cfg0.N then
    (Pipeline.accAt (fun n h => stAt0 m c n h junk0) (stAt0 m c) 0 (pt10Of i) (by omega)).2.2.2.1 (loc10Of i)
  else V m c (Pipeline.arrRef spec0 10) i

/-- The printed index map, decided over the grid: output window 10's block indices stay in the box, and the block number
    read off them is the point's (`t / 25`). -/
theorem idx_facts10 : ∀ t : Fin cfg0.N, 0 ≤ win0_10.index t (0 : Fin 2) ∧ win0_10.index t (0 : Fin 2) ≤ 0
    ∧ 0 ≤ win0_10.index t (1 : Fin 2) ∧ win0_10.index t (1 : Fin 2) ≤ 0
    ∧ 1 * (win0_10.index t (0 : Fin 2) - 0) + 1 * (win0_10.index t (1 : Fin 2) - 0) = t.val / 25 :=
  (by decide +kernel : ∀ t : Fin grid0.N, _)

/-- Every block of the box is SOME flushing point's: `onto10Pt`, the point that writes back the block at place `q` of the box (the last point of its run). -/
abbrev onto10Pt (q0 : Fin 1) (q1 : Fin 1) : Fin grid0.N :=
  ⟨25 * (1 * q0.val + 1 * q1.val) + 24, lt_of_lt_of_eq (by omega) N_0.symm⟩
theorem idx_onto10 : ∀ (q0 : Fin 1) (q1 : Fin 1), ∃ t : Fin cfg0.N, (cfg0.win 10).flush t = true ∧ win0_10.index t = ![q0.val + 0, q1.val + 0] :=
  fun q0 q1 => ⟨onto10Pt q0 q1, (by decide +kernel : ∀ (q0 : Fin 1) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  have hm : t.val % 25 = 24 := (flush0_10 t).mp hf
  obtain ⟨e0, e1, e2⟩ := idx_facts10 t
  funext y
  have hy0 : (y 0).val < 1280 := (y 0).isLt
  have hy1 : (y 1).val < 1024 := (y 1).isLt
  have hb0 : (((cfg0.win 10).blk t).view.emb y 0).val = win0_10.index t (0 : Fin 2) * 1280 + 1 * (y 0).val := rfl
  have hb1 : (((cfg0.win 10).blk t).view.emb y 1).val = win0_10.index t (1 : Fin 2) * 1024 + 1 * (y 1).val := rfl
  have hr : run10Of (((cfg0.win 10).blk t).view.emb y) = t.val / 25 := by
    show 1 * ((((cfg0.win 10).blk t).view.emb y 0).val / 1280 - 0) + 1 * ((((cfg0.win 10).blk t).view.emb y 1).val / 1024 - 0) = _
    rw [hb0, hb1]
    rw [show (win0_10.index t (0 : Fin 2) * 1280 + 1 * (y 0).val) / 1280 = win0_10.index t (0 : Fin 2) from by omega]; rw [show (win0_10.index t (1 : Fin 2) * 1024 + 1 * (y 1).val) / 1024 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 1280 = (y 0).val; rw [hb0]; omega
    | ⟨1, _⟩ => show (((cfg0.win 10).blk t).view.emb y 1).val % 1024 = (y 1).val; rw [hb1]; omega
  have hp : pt10Of (((cfg0.win 10).blk t).view.emb y) = t.val := by
    show 25 * run10Of (((cfg0.win 10).blk t).view.emb y) + 24 = _
    rw [hr]; have := Nat.div_add_mod t.val 25; omega
  show (Pipeline.accAt (fun n h => stAt0 m c n h junk0) (stAt0 m c) 0 t.val _).2.2.2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S1280x1024.Idx) :
    i ∈ ((cfg0.win 10).blk t).view.set ↔ ∀ a : Fin 2, win0_10.index t a * S1280x1024.size a ≤ (i a).val ∧ (i a).val < win0_10.index t a * S1280x1024.size a + S1280x1024.size a := by
  show i ∈ ((View.whole main_v0_3).slice (win0_10.rect t)).set ↔ _
  rw [View.set_slice_whole, Rect.mem_set_unit]
  exact Iff.rfl

/-- THE COVERED INDICES: in some flushing point's block iff inside the box those blocks fill. -/
theorem covered_iff10 (i : S1280x1024.Idx) :
    (∃ t : Fin cfg0.N, (cfg0.win 10).flush t = true ∧ i ∈ ((cfg0.win 10).blk t).view.set) ↔ 0 ≤ (i 0).val ∧ (i 0).val < 1280 ∧ 0 ≤ (i 1).val ∧ (i 1).val < 1024 := by
  constructor
  · rintro ⟨t, -, hi⟩
    rw [mem_blk10] at hi
    have b0 : win0_10.index t (0 : Fin 2) * 1280 ≤ (i 0).val ∧ (i 0).val < win0_10.index t (0 : Fin 2) * 1280 + 1280 := hi 0
    have b1 : win0_10.index t (1 : Fin 2) * 1024 ≤ (i 1).val ∧ (i 1).val < win0_10.index t (1 : Fin 2) * 1024 + 1024 := hi 1
    obtain ⟨e0, e1, e2⟩ := idx_facts10 t
    omega
  · intro h
    have hi0 : (i 0).val < 1280 := (i 0).isLt
    have hi1 : (i 1).val < 1024 := (i 1).isLt
    obtain ⟨t, hft, ht⟩ := idx_onto10 ⟨(i 0).val / 1280 - 0, by omega⟩ ⟨(i 1).val / 1024 - 0, by omega⟩
    have q0 : win0_10.index t (0 : Fin 2) = (i 0).val / 1280 - 0 + 0 := congrFun ht 0
    have q1 : win0_10.index t (1 : Fin 2) = (i 1).val / 1024 - 0 + 0 := congrFun ht 1
    refine ⟨t, hft, ?_⟩
    rw [mem_blk10]
    intro a
    match a with
    | ⟨0, _⟩ => show win0_10.index t (0 : Fin 2) * 1280 ≤ (i 0).val ∧ (i 0).val < win0_10.index t (0 : Fin 2) * 1280 + 1280; omega
    | ⟨1, _⟩ => show win0_10.index t (1 : Fin 2) * 1024 ≤ (i 1).val ∧ (i 1).val < win0_10.index t (1 : Fin 2) * 1024 + 1024; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 1280 := (i 0).isLt; have h1 : (i 1).val < 1024 := (i 1).isLt; omega))

/-- Output 10 is written back ONCE, at the last point, and its block is its array: the array after the run is output 10's
    component of the fold over the whole grid — where a hand proof over this window starts. -/
theorem G10_last (c : Dev nD) :
    G10 m c = (Pipeline.accAt (fun n h => stAt0 m c n h junk0) (stAt0 m c) 0 24 (lt_of_lt_of_eq (by decide) N_0.symm)).2.2.2.1 := by
  funext i
  have hi0 : (i 0).val < 1280 := (i 0).isLt
  have hi1 : (i 1).val < 1024 := (i 1).isLt
  have hp : pt10Of i = 24 := by
    show 25 * (1 * ((i 0).val / 1280 - 0) + 1 * ((i 1).val / 1024 - 0)) + 24 = _
    omega
  have hl : loc10Of i = i := by
    funext a; apply Fin.ext
    match a with
    | ⟨0, _⟩ => show (i 0).val % 1280 = (i 0).val; omega
    | ⟨1, _⟩ => show (i 1).val % 1024 = (i 1).val; omega
  unfold G10
  rw [dif_pos (by rw [hp]; exact lt_of_lt_of_eq (by decide) N_0.symm), hl, fold0_congr m c _ _ _ _ hp]

/-! ## Output window 11 -/

/-- The block of the array that holds index `i`, numbered in the order the points write the blocks back (one every 25 points),
    `i`'s place in it, and the point that writes it back (the last of its 25). -/
abbrev run11Of (i : S1x1024.Idx) : ℕ := 1 * ((i 0).val / 1 - 0) + 1 * ((i 1).val / 1024 - 0)
set_option backward.proofsInPublic true in
abbrev loc11Of (i : S1x1024.Idx) : S1x1024.Idx := fun a => match a with
  | ⟨0, _⟩ => ⟨(i 0).val % 1, Nat.mod_lt _ (by decide)⟩
  | ⟨1, _⟩ => ⟨(i 1).val % 1024, Nat.mod_lt _ (by decide)⟩
abbrev pt11Of (i : S1x1024.Idx) : ℕ := 25 * run11Of i + 24

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v0_4) := fun i =>
  if h : pt11Of i < cfg0.N then
    (Pipeline.accAt (fun n h => stAt0 m c n h junk0) (stAt0 m c) 0 (pt11Of i) (by omega)).2.2.2.2.1 (loc11Of i)
  else V m c (Pipeline.arrRef spec0 11) i

/-- The printed index map, decided over the grid: output window 11's block indices stay in the box, and the block number
    read off them is the point's (`t / 25`). -/
theorem idx_facts11 : ∀ t : Fin cfg0.N, 0 ≤ win0_11.index t (0 : Fin 2) ∧ win0_11.index t (0 : Fin 2) ≤ 0
    ∧ 0 ≤ win0_11.index t (1 : Fin 2) ∧ win0_11.index t (1 : Fin 2) ≤ 0
    ∧ 1 * (win0_11.index t (0 : Fin 2) - 0) + 1 * (win0_11.index t (1 : Fin 2) - 0) = t.val / 25 :=
  (by decide +kernel : ∀ t : Fin grid0.N, _)

/-- Every block of the box is SOME flushing point's: `onto11Pt`, the point that writes back the block at place `q` of the box (the last point of its run). -/
abbrev onto11Pt (q0 : Fin 1) (q1 : Fin 1) : Fin grid0.N :=
  ⟨25 * (1 * q0.val + 1 * q1.val) + 24, lt_of_lt_of_eq (by omega) N_0.symm⟩
theorem idx_onto11 : ∀ (q0 : Fin 1) (q1 : Fin 1), ∃ t : Fin cfg0.N, (cfg0.win 11).flush t = true ∧ win0_11.index t = ![q0.val + 0, q1.val + 0] :=
  fun q0 q1 => ⟨onto11Pt q0 q1, (by decide +kernel : ∀ (q0 : Fin 1) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  have hm : t.val % 25 = 24 := (flush0_11 t).mp hf
  obtain ⟨e0, e1, e2⟩ := idx_facts11 t
  funext y
  have hy0 : (y 0).val < 1 := (y 0).isLt
  have hy1 : (y 1).val < 1024 := (y 1).isLt
  have hb0 : (((cfg0.win 11).blk t).view.emb y 0).val = win0_11.index t (0 : Fin 2) * 1 + 1 * (y 0).val := rfl
  have hb1 : (((cfg0.win 11).blk t).view.emb y 1).val = win0_11.index t (1 : Fin 2) * 1024 + 1 * (y 1).val := rfl
  have hr : run11Of (((cfg0.win 11).blk t).view.emb y) = t.val / 25 := by
    show 1 * ((((cfg0.win 11).blk t).view.emb y 0).val / 1 - 0) + 1 * ((((cfg0.win 11).blk t).view.emb y 1).val / 1024 - 0) = _
    rw [hb0, hb1]
    rw [show (win0_11.index t (0 : Fin 2) * 1 + 1 * (y 0).val) / 1 = win0_11.index t (0 : Fin 2) from by omega]; rw [show (win0_11.index t (1 : Fin 2) * 1024 + 1 * (y 1).val) / 1024 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 1 = (y 0).val; rw [hb0]; omega
    | ⟨1, _⟩ => show (((cfg0.win 11).blk t).view.emb y 1).val % 1024 = (y 1).val; rw [hb1]; omega
  have hp : pt11Of (((cfg0.win 11).blk t).view.emb y) = t.val := by
    show 25 * run11Of (((cfg0.win 11).blk t).view.emb y) + 24 = _
    rw [hr]; have := Nat.div_add_mod t.val 25; omega
  show (Pipeline.accAt (fun n h => stAt0 m c n h junk0) (stAt0 m c) 0 t.val _).2.2.2.2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S1x1024.Idx) :
    i ∈ ((cfg0.win 11).blk t).view.set ↔ ∀ a : Fin 2, win0_11.index t a * S1x1024.size a ≤ (i a).val ∧ (i a).val < win0_11.index t a * S1x1024.size a + S1x1024.size a := by
  show i ∈ ((View.whole main_v0_4).slice (win0_11.rect t)).set ↔ _
  rw [View.set_slice_whole, Rect.mem_set_unit]
  exact Iff.rfl

/-- THE COVERED INDICES: in some flushing point's block iff inside the box those blocks fill. -/
theorem covered_iff11 (i : S1x1024.Idx) :
    (∃ t : Fin cfg0.N, (cfg0.win 11).flush t = true ∧ i ∈ ((cfg0.win 11).blk t).view.set) ↔ 0 ≤ (i 0).val ∧ (i 0).val < 1 ∧ 0 ≤ (i 1).val ∧ (i 1).val < 1024 := by
  constructor
  · rintro ⟨t, -, hi⟩
    rw [mem_blk11] at hi
    have b0 : win0_11.index t (0 : Fin 2) * 1 ≤ (i 0).val ∧ (i 0).val < win0_11.index t (0 : Fin 2) * 1 + 1 := hi 0
    have b1 : win0_11.index t (1 : Fin 2) * 1024 ≤ (i 1).val ∧ (i 1).val < win0_11.index t (1 : Fin 2) * 1024 + 1024 := hi 1
    obtain ⟨e0, e1, e2⟩ := idx_facts11 t
    omega
  · intro h
    have hi0 : (i 0).val < 1 := (i 0).isLt
    have hi1 : (i 1).val < 1024 := (i 1).isLt
    obtain ⟨t, hft, ht⟩ := idx_onto11 ⟨(i 0).val / 1 - 0, by omega⟩ ⟨(i 1).val / 1024 - 0, by omega⟩
    have q0 : win0_11.index t (0 : Fin 2) = (i 0).val / 1 - 0 + 0 := congrFun ht 0
    have q1 : win0_11.index t (1 : Fin 2) = (i 1).val / 1024 - 0 + 0 := congrFun ht 1
    refine ⟨t, hft, ?_⟩
    rw [mem_blk11]
    intro a
    match a with
    | ⟨0, _⟩ => show win0_11.index t (0 : Fin 2) * 1 ≤ (i 0).val ∧ (i 0).val < win0_11.index t (0 : Fin 2) * 1 + 1; omega
    | ⟨1, _⟩ => show win0_11.index t (1 : Fin 2) * 1024 ≤ (i 1).val ∧ (i 1).val < win0_11.index t (1 : Fin 2) * 1024 + 1024; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 1 := (i 0).isLt; have h1 : (i 1).val < 1024 := (i 1).isLt; omega))

/-- Output 11 is written back ONCE, at the last point, and its block is its array: the array after the run is output 11's
    component of the fold over the whole grid — where a hand proof over this window starts. -/
theorem G11_last (c : Dev nD) :
    G11 m c = (Pipeline.accAt (fun n h => stAt0 m c n h junk0) (stAt0 m c) 0 24 (lt_of_lt_of_eq (by decide) N_0.symm)).2.2.2.2.1 := by
  funext i
  have hi0 : (i 0).val < 1 := (i 0).isLt
  have hi1 : (i 1).val < 1024 := (i 1).isLt
  have hp : pt11Of i = 24 := by
    show 25 * (1 * ((i 0).val / 1 - 0) + 1 * ((i 1).val / 1024 - 0)) + 24 = _
    omega
  have hl : loc11Of i = i := by
    funext a; apply Fin.ext
    match a with
    | ⟨0, _⟩ => show (i 0).val % 1 = (i 0).val; omega
    | ⟨1, _⟩ => show (i 1).val % 1024 = (i 1).val; omega
  unfold G11
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0_0) = G7 m c
      ∧ r.2.mem ((c : Thread nD τ).loc main_v0_1) = G8 m c
      ∧ r.2.mem ((c : Thread nD τ).loc main_v0_2) = G9 m c
      ∧ r.2.mem ((c : Thread nD τ).loc main_v0_3) = G10 m c
      ∧ r.2.mem ((c : Thread nD τ).loc main_v0_4) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.BwdIdeal.Value

end
-- ==== Proof.Quant.lean ====
module

public import Idealize.ShloMosaic.Lib.Pipeline.ValueKit
public import Idealize.ShloMosaic.Lib.Pointwise

@[expose] public section

noncomputable section

/-! The power-of-two scale: the search for the exponent field, over the extended reals. -/

namespace Cert.Quant

open Idealize.ShloMosaic

/-- The float whose exponent field is `k` and whose other bits are zero. -/
def pw (k : ℕ) : EReal := if k = 0 then 0 else if k = 255 then ⊤ else (((2 : ℝ) ^ ((k : ℤ) - 127) : ℝ) : EReal)

theorem toNat_field {k : ℕ} (hk : k < 256) : (BitVec.ofNat 32 (k * 8388608)).toNat = k * 8388608 := by
  rw [BitVec.toNat_ofNat]
  omega

/-- The bits of an exponent field alone denote that power of two. -/
theorem ofBits_field {k : ℕ} (hk : k < 256) : Ideal.ofBits .f32 (BitVec.ofNat 32 (k * 8388608)) = pw k := by
  have hn := toNat_field hk
  have e1 : ((BitVec.ofNat 32 (k * 8388608)).extractLsb' 23 8).toNat = k := by
    rw [BitVec.extractLsb'_toNat, hn, Nat.shiftRight_eq_div_pow]; omega
  have e2 : ((BitVec.ofNat 32 (k * 8388608)).extractLsb' 0 23).toNat = 0 := by
    rw [BitVec.extractLsb'_toNat, hn, Nat.shiftRight_eq_div_pow]; omega
  have e3 : ((BitVec.ofNat 32 (k * 8388608)).extractLsb' (8 + 23) 1 == 1#1) = false := by
    rw [beq_eq_false_iff_ne]
    intro h
    have := congrArg BitVec.toNat h
    rw [BitVec.extractLsb'_toNat, hn, Nat.shiftRight_eq_div_pow] at this
    change _ = 1 at this
    omega
  show Ideal.ieee 8 23 _ = _
  unfold Ideal.ieee
  simp only [e1, e2, e3]
  unfold pw
  by_cases h0 : k = 0
  · subst h0; simp
  · by_cases h1 : k = 255
    · subst h1; simp
    · rw [if_neg (by omega), if_neg h0, if_neg h0, if_neg h1]
      refine congrArg _ ?_
      simp only [Bool.false_eq_true, if_false, one_mul, Nat.add_zero]
      rw [show ((k : ℤ) - 127) = ((23 : ℕ) : ℤ) + ((k : ℤ) - (2 ^ (8 - 1) - 1) - (23 : ℕ)) by push_cast; ring, zpow_add₀ (by norm_num), zpow_natCast]
      norm_num

/-- One step of the search. -/
def kstep (b : BitVec 32) (y : EReal) (e : BitVec 32) : BitVec 32 := if Ideal.ofBits .f32 (IntOp.addi e b) ≤ y then IntOp.addi e b else e

/-- The search. -/
def kexp (y : EReal) : BitVec 32 :=
  kstep 8388608#32 y (kstep 16777216#32 y (kstep 33554432#32 y (kstep 67108864#32 y (kstep 134217728#32 y (kstep 268435456#32 y
    (kstep 536870912#32 y (kstep 1073741824#32 y 0#32)))))))

/-- The scale of an exponent field. -/
def kscale (e : BitVec 32) : EReal :=
  Ideal.ofBits .f32 (Scalar.select (IntOp.andi (IntOp.cmpi .ne e 0#32) (IntOp.cmpi .ne e 2139095040#32)) (IntOp.addi e 8388608#32) 1065353216#32)

/-- The inverse scale of an exponent field. -/
def kinv (e : BitVec 32) : EReal :=
  Ideal.ofBits .f32 (Scalar.select (IntOp.andi (IntOp.cmpi .ne e 0#32) (IntOp.cmpi .ne e 2139095040#32)) (IntOp.subi 2122317824#32 e) 1065353216#32)

/-- What the search has found: the field `k`, a multiple of the step `w`, whose float is not above `y`, the next one being. -/
def Found (y : EReal) (w : ℕ) (e : BitVec 32) : Prop :=
  ∃ k, e = BitVec.ofNat 32 (k * 8388608) ∧ w ∣ k ∧ k + w ≤ 256 ∧ pw k ≤ y ∧ (k + w < 256 → y < pw (k + w))

/-- One step halves the width. -/
theorem found_step {y : EReal} {w : ℕ} (hw : 0 < w) {e : BitVec 32} (h : Found y (2 * w) e) (b : BitVec 32) (hb : b = BitVec.ofNat 32 (w * 8388608)) : Found y w (kstep b y e) := by
  obtain ⟨k, rfl, hd, hk, hle, hlt⟩ := h
  have ha : IntOp.addi (BitVec.ofNat 32 (k * 8388608)) b = BitVec.ofNat 32 ((k + w) * 8388608) := by
    subst hb
    show BitVec.ofNat 32 (k * 8388608) + BitVec.ofNat 32 (w * 8388608) = _
    rw [← BitVec.ofNat_add, ← Nat.add_mul]
  unfold kstep
  rw [ha, ofBits_field (by omega)]
  by_cases hc : pw (k + w) ≤ y
  · rw [if_pos hc]
    exact ⟨k + w, rfl, (Nat.dvd_add_right ((Nat.dvd_mul_left w 2).trans hd)).mpr (dvd_refl w), by omega, hc, fun h => by
      have := hlt (by omega); rwa [show k + w + w = k + 2 * w by ring]⟩
  · rw [if_neg hc]
    exact ⟨k, rfl, (Nat.dvd_mul_left w 2).trans hd, by omega, hle, fun _ => lt_of_not_ge hc⟩

/-- The search finds the field. -/
theorem found (y : EReal) (h0 : 0 ≤ y) : Found y 1 (kexp y) := by
  have s0 : Found y (2 * 128) 0#32 := ⟨0, rfl, dvd_zero _, by omega, h0, fun h => absurd h (by omega)⟩
  have s1 : Found y (2 * 64) _ := found_step (by omega) s0 1073741824#32 rfl
  have s2 : Found y (2 * 32) _ := found_step (by omega) s1 536870912#32 rfl
  have s3 : Found y (2 * 16) _ := found_step (by omega) s2 268435456#32 rfl
  have s4 : Found y (2 * 8) _ := found_step (by omega) s3 134217728#32 rfl
  have s5 : Found y (2 * 4) _ := found_step (by omega) s4 67108864#32 rfl
  have s6 : Found y (2 * 2) _ := found_step (by omega) s5 33554432#32 rfl
  have s7 : Found y (2 * 1) _ := found_step (by omega) s6 16777216#32 rfl
  exact found_step (by omega) s7 8388608#32 rfl

/-- The float of the field 127 is one. -/
theorem one_bits : Ideal.ofBits .f32 1065353216#32 = 1 := by
  have h := ofBits_field (k := 127) (by omega)
  rw [show BitVec.ofNat 32 (127 * 8388608) = 1065353216#32 from rfl] at h
  rw [h]
  simp [pw]

theorem pw_mono_lt {j k : ℕ} (hj : j ≤ 254) (h : pw j < pw (k + 1)) (hk : k ≤ 254) : j ≤ k := by
  by_contra hc
  have hjk : k + 1 ≤ j := by omega
  unfold pw at h
  rw [if_neg (by omega : ¬j = 0), if_neg (by omega : ¬j = 255), if_neg (by omega : ¬k + 1 = 0), if_neg (by omega : ¬k + 1 = 255)] at h
  have := EReal.coe_lt_coe_iff.mp h
  have := (zpow_lt_zpow_iff_right₀ (by norm_num : (1 : ℝ) < 2)).mp this
  push_cast at this
  omega

/-- The kernel's scale of a value below 2^126: one below the smallest normal number, else the least power of two above the value. -/
theorem scale_cases (y : EReal) (h0 : 0 ≤ y) (h1 : y < (((2 : ℝ) ^ (126 : ℤ) : ℝ) : EReal)) :
    (y < (((2 : ℝ) ^ (-126 : ℤ) : ℝ) : EReal) ∧ kscale (kexp y) = 1 ∧ kinv (kexp y) = 1) ∨
    ∃ n : ℤ, (((2 : ℝ) ^ (-126 : ℤ) : ℝ) : EReal) ≤ y ∧ (((2 : ℝ) ^ (n - 1) : ℝ) : EReal) ≤ y ∧ y < (((2 : ℝ) ^ n : ℝ) : EReal) ∧
      kscale (kexp y) = (((2 : ℝ) ^ n : ℝ) : EReal) ∧ kinv (kexp y) = (((2 : ℝ) ^ (-n) : ℝ) : EReal) := by
  obtain ⟨k, hk, -, hk2, hle, hlt⟩ := found y h0
  rw [hk]
  have hk3 : k ≤ 252 := by
    by_contra hc
    have hp : (((2 : ℝ) ^ (126 : ℤ) : ℝ) : EReal) ≤ pw k := by
      unfold pw
      rw [if_neg (by omega)]
      by_cases h : k = 255
      · rw [if_pos h]; exact le_top
      · rw [if_neg h]
        exact EReal.coe_le_coe_iff.mpr (zpow_le_zpow_right₀ (by norm_num) (by omega))
    exact absurd (lt_of_lt_of_le h1 hp) (not_lt.mpr hle)
  have hlt' := hlt (by omega)
  rcases Nat.eq_zero_or_pos k with rfl | hpos
  · left
    refine ⟨?_, ?_, ?_⟩
    · simpa [pw] using hlt'
    · exact one_bits
    · exact one_bits
  · right
    have hsel : IntOp.andi (IntOp.cmpi .ne (BitVec.ofNat 32 (k * 8388608)) 0#32) (IntOp.cmpi .ne (BitVec.ofNat 32 (k * 8388608)) 2139095040#32) = 1#1 := by
      have a : BitVec.ofNat 32 (k * 8388608) ≠ 0#32 := fun h => by
        have := congrArg BitVec.toNat h; rw [toNat_field (by omega)] at this; change _ = 0 at this; omega
      have b : BitVec.ofNat 32 (k * 8388608) ≠ 2139095040#32 := fun h => by
        have := congrArg BitVec.toNat h; rw [toNat_field (by omega)] at this; change _ = 2139095040 at this; omega
      have a' := bne_iff_ne.mpr a
      have b' := bne_iff_ne.mpr b
      simp only [IntOp.andi, IntOp.cmpi, a', b']
      rfl
    have e1 : IntOp.addi (BitVec.ofNat 32 (k * 8388608)) 8388608#32 = BitVec.ofNat 32 ((k + 1) * 8388608) := by
      show BitVec.ofNat 32 (k * 8388608) + BitVec.ofNat 32 (1 * 8388608) = _
      rw [← BitVec.ofNat_add, ← Nat.add_mul]
    have e2 : IntOp.subi 2122317824#32 (BitVec.ofNat 32 (k * 8388608)) = BitVec.ofNat 32 ((253 - k) * 8388608) := by
      show BitVec.ofNat 32 (253 * 8388608) - BitVec.ofNat 32 (k * 8388608) = _
      refine BitVec.eq_of_toNat_eq ?_
      rw [BitVec.toNat_sub, toNat_field (by omega), toNat_field (by omega), toNat_field (by omega)]
      omega
    refine ⟨(k : ℤ) - 126, ?_, ?_, ?_, ?_, ?_⟩
    · refine le_trans ?_ hle
      unfold pw
      rw [if_neg (by omega), if_neg (by omega)]
      exact EReal.coe_le_coe_iff.mpr (zpow_le_zpow_right₀ (by norm_num) (by omega))
    · refine le_trans (le_of_eq ?_) hle
      unfold pw
      rw [if_neg (by omega), if_neg (by omega)]
      congr 2; ring
    · refine lt_of_lt_of_eq hlt' ?_
      unfold pw
      rw [if_neg (by omega), if_neg (by omega)]
      congr 2; push_cast; ring
    · unfold kscale
      rw [hsel, show Scalar.select 1#1 (IntOp.addi (BitVec.ofNat 32 (k * 8388608)) 8388608#32) 1065353216#32 = IntOp.addi (BitVec.ofNat 32 (k * 8388608)) 8388608#32 from rfl, e1, ofBits_field (by omega)]
      unfold pw
      rw [if_neg (by omega), if_neg (by omega)]
      congr 2; push_cast; ring
    · unfold kinv
      rw [hsel, show Scalar.select 1#1 (IntOp.subi 2122317824#32 (BitVec.ofNat 32 (k * 8388608))) 1065353216#32 = IntOp.subi 2122317824#32 (BitVec.ofNat 32 (k * 8388608)) from rfl, e2, ofBits_field (by omega)]
      unfold pw
      rw [if_neg (by omega), if_neg (by omega)]
      congr 2; omega

end Cert.Quant

end
-- ==== Proof.BwdMath.lean ====
module

public import proofs.«01_k».proof.Proof.Quant
public import proofs.«01_k».proof.Proof.Lse
public import Idealize.ShloMosaic.Lib.Pipeline.ValueKit
public import Idealize.ShloMosaic.Lib.Pointwise

@[expose] public section

noncomputable section

/-! The backward call's mathematics at an index, over the extended reals. -/

namespace Cert.Quant

open Idealize.ShloMosaic

/-- The reference's exponent: the floor of the base-two logarithm plus one, zero below the smallest normal number. -/
def rexp (y : EReal) : EReal :=
  Scalar.select (BitVec.ofBool (decide (y < Ideal.ofBits .f32 8388608#32))) (0 : EReal) (Ideal.liftRound Int.floor (Ideal.div (Ideal.log y) ((Real.log 2 : ℝ) : EReal)) + 1)

theorem min_normal : Ideal.ofBits .f32 8388608#32 = (((2 : ℝ) ^ (-126 : ℤ) : ℝ) : EReal) := by
  have h := ofBits_field (k := 1) (by omega)
  rw [show BitVec.ofNat 32 (1 * 8388608) = 8388608#32 from rfl] at h
  rw [h]
  unfold pw
  norm_num

theorem exp2_int (n : ℤ) : Ideal.exp2 (((n : ℝ)) : EReal) = (((2 : ℝ) ^ n : ℝ) : EReal) := by
  show ((Real.rpow 2 (n : ℝ) : ℝ) : EReal) = _
  exact congrArg _ (Real.rpow_intCast 2 n)

/-- The reference's exponent of a value between two neighbouring powers of two. -/
theorem rexp_eq (y : EReal) (n : ℤ) (hm : (((2 : ℝ) ^ (-126 : ℤ) : ℝ) : EReal) ≤ y) (hl : (((2 : ℝ) ^ (n - 1) : ℝ) : EReal) ≤ y) (hu : y < (((2 : ℝ) ^ n : ℝ) : EReal)) :
    rexp y = ((n : ℝ) : EReal) := by
  unfold rexp
  rw [min_normal, decide_eq_false (not_lt.2 hm)]
  show Ideal.liftRound Int.floor (Ideal.div (Ideal.log y) ((Real.log 2 : ℝ) : EReal)) + 1 = _
  induction y with
  | bot => exact absurd hm (by simp)
  | top => exact absurd hu (by simp)
  | coe r =>
    have hl' : (2 : ℝ) ^ (n - 1) ≤ r := EReal.coe_le_coe_iff.1 hl
    have hu' : r < (2 : ℝ) ^ n := EReal.coe_lt_coe_iff.1 hu
    have hr : 0 < r := lt_of_lt_of_le (by positivity) hl'
    have h2 : 0 < Real.log 2 := Real.log_pos (by norm_num)
    have e1 : Ideal.log (r : EReal) = ((Real.log r : ℝ) : EReal) := by
      show (if r ≤ 0 then ⊥ else ((Real.log r : ℝ) : EReal)) = _
      rw [if_neg (not_le.2 hr)]
    have e2 : Ideal.div ((Real.log r : ℝ) : EReal) ((Real.log 2 : ℝ) : EReal) = ((Real.log r / Real.log 2 : ℝ) : EReal) := by
      unfold Ideal.div
      rw [if_neg (by exact_mod_cast h2.ne'), div_eq_mul_inv, EReal.coe_mul, EReal.coe_inv]
    have e3 : ⌊Real.log r / Real.log 2⌋ = n - 1 := by
      rw [Int.floor_eq_iff]
      constructor
      · rw [le_div_iff₀ h2, ← Real.log_zpow]
        exact Real.log_le_log (by positivity) hl'
      · rw [div_lt_iff₀ h2]
        have : ((n - 1 : ℤ) : ℝ) + 1 = (n : ℤ) := by push_cast; ring
        rw [this, ← Real.log_zpow]
        exact Real.log_lt_log hr hu'
    rw [e1, e2]
    show (((⌊Real.log r / Real.log 2⌋ : ℤ) : ℝ) : EReal) + 1 = _
    rw [e3]
    have : ((n : ℝ) : EReal) = (((n - 1 : ℤ) : ℝ) : EReal) + ((1 : ℝ) : EReal) := by
      rw [← EReal.coe_add]; congr 1; push_cast; ring
    rw [this]; rfl

/-- The reference's exponent below the smallest normal number. -/
theorem rexp_small (y : EReal) (hm : y < (((2 : ℝ) ^ (-126 : ℤ) : ℝ) : EReal)) : rexp y = 0 := by
  unfold rexp
  rw [min_normal, decide_eq_true hm]
  rfl

/-- The two scales are one. -/
theorem scale_eq (y : EReal) (h0 : 0 ≤ y) (h1 : y < (((2 : ℝ) ^ (126 : ℤ) : ℝ) : EReal)) : Ideal.exp2 (rexp y) = kscale (kexp y) := by
  rcases scale_cases y h0 h1 with ⟨hs, e, -⟩ | ⟨n, hm, hl, hu, e, -⟩
  · rw [rexp_small y hs, e]
    have := exp2_int 0
    simpa using this
  · rw [rexp_eq y n hm hl hu, e, exp2_int]

/-- The two inverse scales are one. -/
theorem inv_eq (y : EReal) (h0 : 0 ≤ y) (h1 : y < (((2 : ℝ) ^ (126 : ℤ) : ℝ) : EReal)) : Ideal.exp2 (0 - rexp y) = kinv (kexp y) := by
  rcases scale_cases y h0 h1 with ⟨hs, -, e⟩ | ⟨n, hm, hl, hu, -, e⟩
  · rw [rexp_small y hs, e]
    have := exp2_int 0
    simpa using this
  · rw [rexp_eq y n hm hl hu, e, ← exp2_int]
    congr 1
    rw [zero_sub, Int.cast_neg, EReal.coe_neg]

/-- The gradient of a logit: probability less one at the label, times the token's weight. -/
def grad (x lse : EReal) (hit : BitVec 1) (gs : EReal) : EReal := (Ideal.exp2 (x - lse) - Scalar.select hit (1 : EReal) 0) * gs

/-- A token's weight: its mask over the number of masked tokens. -/
def weight (mk : Fin 1024 → BitVec 32) (q : Fin 1024) : EReal :=
  Ideal.div (((mk q).toInt : ℝ) : EReal) (max (∑ x, (((mk x).toInt : ℝ) : EReal)) 1)

/-- The base of the exponential changed. -/
theorem exp_base (x m : EReal) : Ideal.exp (x * ((Real.log 2 : ℝ) : EReal) - m * ((Real.log 2 : ℝ) : EReal)) = Ideal.exp2 (x - m) := by
  have h2 : 0 < Real.log 2 := Real.log_pos (by norm_num)
  rw [Cert.Lse.sub_mul_pos _ _ h2, ← Cert.Lse.exp2_mul_log2e, mul_assoc, ← EReal.coe_mul, mul_inv_cancel₀ h2.ne', EReal.coe_one, mul_one]

theorem coe_max (a b : ℝ) : ((max a b : ℝ) : EReal) = max (a : EReal) (b : EReal) := EReal.coe_strictMono.monotone.map_max

theorem sum_coe (f : Fin 1024 → ℝ) (S : Finset (Fin 1024)) : (∑ x ∈ S, ((f x : ℝ) : EReal)) = ((∑ x ∈ S, f x : ℝ) : EReal) := by
  induction S using Finset.induction_on with
  | empty => simp
  | insert a S ha ih => rw [Finset.sum_insert ha, Finset.sum_insert ha, ih, EReal.coe_add]

/-- A token's weight is a real number of magnitude at most 2^31. -/
theorem weight_real (mk : Fin 1024 → BitVec 32) (q : Fin 1024) : ∃ w : ℝ, weight mk q = (w : EReal) ∧ |w| ≤ 2 ^ 31 := by
  unfold weight
  rw [sum_coe (fun x => ((mk x).toInt : ℝ))]
  generalize hs : (∑ x, ((mk x).toInt : ℝ)) = s
  have hmax : max (s : EReal) 1 = ((max s 1 : ℝ) : EReal) := by
    rw [coe_max]; rfl
  have hpos : 0 < max s 1 := lt_of_lt_of_le one_pos (le_max_right _ _)
  refine ⟨((mk q).toInt : ℝ) * (max s 1)⁻¹, ?_, ?_⟩
  · rw [hmax]
    unfold Ideal.div
    rw [if_neg (by exact_mod_cast hpos.ne'), EReal.coe_mul, EReal.coe_inv]
  · rw [abs_mul]
    have h1 : |((mk q).toInt : ℝ)| ≤ 2 ^ 31 := by
      have a := BitVec.toInt_lt (x := mk q)
      have b := BitVec.le_toInt (x := mk q)
      rw [abs_le]
      constructor
      · have : (-(2 ^ 31 : ℤ)) ≤ (mk q).toInt := by simpa using b
        exact_mod_cast this
      · have : (mk q).toInt ≤ (2 ^ 31 : ℤ) := le_of_lt (by simpa using a)
        exact_mod_cast this
    have h2 : |(max s 1)⁻¹| ≤ 1 := by
      rw [abs_of_pos (inv_pos.2 hpos)]
      exact inv_le_one_of_one_le₀ (le_max_right _ _)
    calc _ ≤ (2 : ℝ) ^ 31 * 1 := mul_le_mul h1 h2 (abs_nonneg _) (by positivity)
      _ = 2 ^ 31 := mul_one _

/-- The probability under the precondition is a real number between zero and one. -/
theorem prob_real (x m : EReal) (h : x ≤ m) : ∃ p : ℝ, Ideal.exp2 (x - m) = (p : EReal) ∧ 0 ≤ p ∧ p ≤ 1 := by
  have hle : x - m ≤ 0 := by
    induction m with
    | bot => rw [le_bot_iff.1 h]; simp
    | top => simp
    | coe r =>
      induction x with
      | bot => simp
      | top => exact absurd h (by simp)
      | coe s => rw [← EReal.coe_sub]; have := EReal.coe_le_coe_iff.1 h; exact_mod_cast sub_nonpos.2 this
  generalize x - m = d at hle
  induction d with
  | bot => exact ⟨0, rfl, le_refl _, zero_le_one⟩
  | top => exact absurd hle (by simp)
  | coe r =>
    refine ⟨Real.rpow 2 r, rfl, Real.rpow_nonneg (by norm_num) r, ?_⟩
    have : r ≤ 0 := by exact_mod_cast hle
    exact Real.rpow_le_one_of_one_le_of_nonpos (by norm_num) this

/-- Under the precondition a gradient's magnitude is at most 2^31. -/
theorem grad_bound (x m : EReal) (h : x ≤ m) (hit : BitVec 1) (mk : Fin 1024 → BitVec 32) (q : Fin 1024) :
    max (grad x m hit (weight mk q)) (-(grad x m hit (weight mk q))) ≤ (((2 : ℝ) ^ 31 : ℝ) : EReal) := by
  obtain ⟨p, hp, hp0, hp1⟩ := prob_real x m h
  obtain ⟨w, hw, hw1⟩ := weight_real mk q
  obtain ⟨b, hb, hb0, hb1⟩ : ∃ b : ℝ, Scalar.select hit (1 : EReal) 0 = (b : EReal) ∧ 0 ≤ b ∧ b ≤ 1 := by
    unfold Scalar.select
    split_ifs
    · exact ⟨1, rfl, zero_le_one, le_refl _⟩
    · exact ⟨0, rfl, le_refl _, zero_le_one⟩
  unfold grad
  rw [hp, hw, hb, ← EReal.coe_sub, ← EReal.coe_mul, ← EReal.coe_neg, ← coe_max, EReal.coe_le_coe_iff]
  show |(p - b) * w| ≤ _
  rw [abs_mul]
  have h1 : |p - b| ≤ 1 := abs_le.2 ⟨by linarith, by linarith⟩
  calc _ ≤ 1 * (2 : ℝ) ^ 31 := mul_le_mul h1 hw1 (abs_nonneg _) zero_le_one
    _ = 2 ^ 31 := one_mul _

/-- A group's greatest magnitude over the format's limit. -/
def top (g : Fin 128 → EReal) : EReal :=
  Finset.fold max (Ideal.ofBits .f32 4286578688#32) (fun r => max (g r) (-(g r))) Finset.univ * Ideal.ofBits .f32 932333861#32

theorem limit_inv : ∃ c : ℝ, Ideal.ofBits .f32 932333861#32 = (c : EReal) ∧ 0 ≤ c ∧ c ≤ 1 := by
  refine ⟨_, (by simp [Ideal.ofBits, Ideal.ieee]; rfl), ?_, ?_⟩ <;> norm_num

theorem top_bounds (g : Fin 128 → EReal) (h : ∀ r, max (g r) (-(g r)) ≤ (((2 : ℝ) ^ 31 : ℝ) : EReal)) :
    0 ≤ top g ∧ top g < (((2 : ℝ) ^ (126 : ℤ) : ℝ) : EReal) := by
  obtain ⟨c, hc, hc0, hc1⟩ := limit_inv
  have hbot : Ideal.ofBits .f32 4286578688#32 = ⊥ := by simp [Ideal.ofBits, Ideal.ieee]
  unfold top
  rw [hc, hbot]
  have e : Finset.fold max (⊥ : EReal) (fun r => max (g r) (-(g r))) Finset.univ = Finset.univ.sup fun r => max (g r) (-(g r)) := rfl
  rw [e]
  have hu : (Finset.univ.sup fun r => max (g r) (-(g r))) ≤ (((2 : ℝ) ^ 31 : ℝ) : EReal) := Finset.sup_le fun r _ => h r
  have hl : 0 ≤ Finset.univ.sup fun r => max (g r) (-(g r)) := by
    refine le_trans ?_ (Finset.le_sup (f := fun r => max (g r) (-(g r))) (Finset.mem_univ 0))
    show (0 : EReal) ≤ max (g 0) (-(g 0))
    rcases le_total 0 (g 0) with h | h
    · exact le_max_of_le_left h
    · exact le_max_of_le_right (EReal.neg_nonneg.2 h)
  have hc0' : (0 : EReal) ≤ (c : EReal) := by exact_mod_cast hc0
  refine ⟨mul_nonneg hl hc0', lt_of_le_of_lt (mul_le_mul_of_nonneg_right hu hc0') ?_⟩
  rw [← EReal.coe_mul, EReal.coe_lt_coe_iff]
  calc (2 : ℝ) ^ 31 * c ≤ 2 ^ 31 * 1 := by nlinarith [show (0:ℝ) < 2^31 by positivity]
    _ < (2 : ℝ) ^ (126 : ℤ) := by norm_num

/-- A positive real factor comes out of a sum. -/
theorem sum_mul_pos {ι : Type} (S : Finset ι) (f : ι → EReal) {c : ℝ} (hc : 0 < c) : (∑ i ∈ S, f i * (c : EReal)) = (∑ i ∈ S, f i) * (c : EReal) := by
  classical
  induction S using Finset.induction_on with
  | empty => simp
  | insert a S ha ih =>
    rw [Finset.sum_insert ha, Finset.sum_insert ha, ih]
    have := Cert.Lse.sub_mul_pos (f a) (-(∑ i ∈ S, f i)) hc
    rw [EReal.neg_mul, sub_eq_add_neg, sub_eq_add_neg, neg_neg, neg_neg] at this
    exact this

section Whole

variable (G : Fin 32000 → Fin 1024 → EReal)

/-- Row `r` of group `a`. -/
abbrev at_ (a : Fin 250) (r : Fin 128) : Fin 32000 := ⟨128 * a.val + r.val, by omega⟩

/-- The group of a row. -/
abbrev grpOf (v : Fin 32000) : Fin 250 := ⟨v.val / 128, by omega⟩

/-- The scale of a group of rows, at a column. -/
def sc (a : Fin 250) (q : Fin 1024) : EReal := kscale (kexp (top fun r => G (at_ a r) q))

/-- The inverse scale of a group of rows, at a column. -/
def iv (a : Fin 250) (q : Fin 1024) : EReal := kinv (kexp (top fun r => G (at_ a r) q))

/-- The code of a gradient under an inverse scale. -/
def code (g i : EReal) : EReal := min (Ideal.ofBits .f32 1197473792#32) (max (Ideal.ofBits .f32 3344957440#32) (g * i))

/-- A row's code, at a column. -/
def cd (v : Fin 32000) (q : Fin 1024) : EReal := code (G v q) (iv G (grpOf v) q)

/-- The dequantised gradient. -/
def gd (v : Fin 32000) (q : Fin 1024) : EReal := cd G v q * sc G (grpOf v) q

end Whole

/-- The whole gradient of the logits. -/
def gradAll (l : Fin 32000 → Fin 1024 → EReal) (lse : Fin 1024 → EReal) (lab mk : Fin 1024 → BitVec 32) (v : Fin 32000) (q : Fin 1024) : EReal :=
  grad (l v q) (lse q) (IntOp.cmpi .eq (BitVec.ofNat 32 v.val) (lab q)) (weight mk q)

/-- Under the precondition a group's scaled maximum is in the quantiser's range. -/
theorem gradAll_bounds (l : Fin 32000 → Fin 1024 → EReal) (lse : Fin 1024 → EReal) (lab mk : Fin 1024 → BitVec 32) (h : ∀ v q, l v q ≤ lse q) (a : Fin 250) (q : Fin 1024) :
    0 ≤ top (fun r => gradAll l lse lab mk (at_ a r) q) ∧ top (fun r => gradAll l lse lab mk (at_ a r) q) < (((2 : ℝ) ^ (126 : ℤ) : ℝ) : EReal) :=
  top_bounds _ fun r => grad_bound _ _ (h _ _) _ _ _

/-- Comparing a row's number within a block with the label less the block's first row. -/
theorem hit_eq (o r v : ℕ) (hv : v = o + r) (lab ob : BitVec 32) (ho : ob = BitVec.ofNat 32 o) :
    IntOp.cmpi .eq (BitVec.ofNat 32 r) (IntOp.subi lab ob) = IntOp.cmpi .eq (BitVec.ofNat 32 v) lab := by
  subst hv ho
  have e : (BitVec.ofNat 32 r == lab - BitVec.ofNat 32 o) = (BitVec.ofNat 32 (o + r) == lab) := by
    rw [Bool.eq_iff_iff, beq_iff_eq, beq_iff_eq, BitVec.ofNat_add]
    constructor
    · intro h; rw [h, BitVec.add_comm, BitVec.sub_add_cancel]
    · intro h; rw [← h, BitVec.add_comm, BitVec.add_sub_cancel]
  show BitVec.ofBool (BitVec.ofNat 32 r == lab - BitVec.ofNat 32 o) = BitVec.ofBool (BitVec.ofNat 32 (o + r) == lab)
  rw [e]

/-- A vocabulary row's part of the gradient of the activations. -/
def dhTerm (W : Fin 32000 → Fin 1280 → EReal) (ws : Fin 250 → EReal) (G : Fin 32000 → Fin 1024 → EReal) (d : Fin 1280) (q : Fin 1024) (v : Fin 32000) : EReal :=
  W v d * ws (grpOf v) * gd G v q

/-- A label's logit, else zero. -/
def pick (l : Fin 32000 → Fin 1024 → EReal) (lab : Fin 1024 → BitVec 32) (v : Fin 32000) (q : Fin 1024) : EReal :=
  Scalar.select (IntOp.cmpi .eq (BitVec.ofNat 32 v.val) (lab q)) (l v q) 0

/-- A token's loss, from its base-two log-sum-exp and its label's logit. -/
def tok (lse t : EReal) (mk : BitVec 32) : EReal := (lse - t) * ((Real.log 2 : ℝ) : EReal) * ((mk.toInt : ℝ) : EReal)

/-- The weight gradient at an index. -/
def dwSum (G : Fin 32000 → Fin 1024 → EReal) (H : Fin 1024 → Fin 1280 → EReal) (v : Fin 32000) (d : Fin 1280) : EReal := ∑ q : Fin 1024, gd G v q * H q d

end Cert.Quant

end
-- ==== Proof.BwdStep.lean ====
module

public import proofs.«01_k».proof.Proof.BwdOut
public import proofs.«01_k».proof.Proof.BwdValue
public import proofs.«01_k».proof.Proof.BwdMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BwdIdeal.Value

open Cert.BwdIdeal Cert.BwdIdeal.Gen

open Cert.Quant

/-- The gradient of a block of rows at an index. -/
theorem gU_apply (o : BitVec 32) (l : FVec Ideal S128x1024 .f32) (lse : FVec Ideal S1x1024 .f32) (x4 x5 : Vec Ideal S1x1024 .i32) (r : Fin 128) (q : Fin 1024) :
    gU o l lse x4 x5 (ix2 r q) = grad (l (ix2 r q)) (lse (ix2 0 q)) (IntOp.cmpi .eq (BitVec.ofNat 32 r.val) (IntOp.subi (x4 (ix2 0 q)) o)) (weight (fun x => x5 (ix2 0 x)) q) := by
  pointwise [gU, hitU, k0_pay9, k0_pay8, k0_pay7]
  rfl

/-- A block's scaled maximum at a column. -/
theorem yU_apply (g : FVec Ideal S128x1024 .f32) (q : Fin 1024) : yU g (ix2 0 q) = top fun r => g (ix2 r q) := by
  pointwise [yU]
  rfl

theorem stepU_apply (b : BitVec 32) (y : FVec Ideal S1x1024 .f32) (e : IVec S1x1024 32) (q : Fin 1024) : stepU b y e (ix2 0 q) = kstep b (y (ix2 0 q)) (e (ix2 0 q)) := by
  pointwise [stepU]
  rfl

/-- The exponent field at a column. -/
theorem expU_apply (y : FVec Ideal S1x1024 .f32) (q : Fin 1024) : expU y (ix2 0 q) = kexp (y (ix2 0 q)) := by
  unfold expU kexp
  simp only [stepU_apply]
  rfl

theorem scaleU_apply (e : IVec S1x1024 32) (q : Fin 1024) : scaleU e (ix2 0 q) = kscale (e (ix2 0 q)) := by
  pointwise [scaleU, okU]
  rfl

theorem invU_apply (e : IVec S1x1024 32) (q : Fin 1024) : invU e (ix2 0 q) = kinv (e (ix2 0 q)) := by
  pointwise [invU, okU]
  rfl

/-- The codes at an index. -/
theorem codesU_apply (g : FVec Ideal S128x1024 .f32) (r : Fin 128) (q : Fin 1024) :
    codesU g (ix2 r q) = code (g (ix2 r q)) (kinv (kexp (top fun r => g (ix2 r q)))) := by
  unfold codesU
  have h : invU (expU (yU g)) (ix2 0 q) = kinv (kexp (top fun r => g (ix2 r q))) := by rw [invU_apply, expU_apply, yU_apply]
  generalize invU (expU (yU g)) = I at h
  pointwise []
  rw [h]
  rfl

/-- The scales at a column. -/
theorem scales_apply (g : FVec Ideal S128x1024 .f32) (q : Fin 1024) : scaleU (expU (yU g)) (ix2 0 q) = kscale (kexp (top fun r => g (ix2 r q))) := by
  rw [scaleU_apply, expU_apply, yU_apply]

/-- The dequantised gradient at an index. -/
theorem gdU_apply (g : FVec Ideal S128x1024 .f32) (r : Fin 128) (q : Fin 1024) :
    gdU g (ix2 r q) = code (g (ix2 r q)) (kinv (kexp (top fun r => g (ix2 r q)))) * kscale (kexp (top fun r => g (ix2 r q))) := by
  unfold gdU
  have h1 := codesU_apply g r q
  have h2 := scales_apply g q
  generalize codesU g = C at h1
  generalize scaleU (expU (yU g)) = S at h2
  pointwise []
  rw [h1, h2]

/-- The labels' logits of a block, added up over the rows that fall in row `p` of eight. -/
theorem tU_apply (o : BitVec 32) (l : FVec Ideal S128x1024 .f32) (x4 : Vec Ideal S1x1024 .i32) (p : Fin 8) (q : Fin 1024) :
    tU o l x4 (ix2 p q) = ∑ k : Fin 16, Scalar.select (IntOp.cmpi .eq (BitVec.ofNat 32 (k.val * 8 + p.val)) (IntOp.subi (x4 (ix2 0 q)) o)) (l (ix2 ⟨k.val * 8 + p.val, by omega⟩ q)) 0 := by
  pointwise [tU, hitU]

variable (m : (ℓ : Loc nD τ sig) → Buf (Elt Ideal) ℓ) (ρ : Dev nD → PrngReg)

/-- The index maps of the windows at a grid point. -/
theorem idx : ∀ t : Fin cfg0.N, win0_0.index t = ![0] ∧ win0_1.index t = ![t.val, 0] ∧ win0_2.index t = ![t.val, 0] ∧ win0_3.index t = ![0, 0] ∧ win0_4.index t = ![0, 0] ∧ win0_5.index t = ![0, 0] ∧ win0_6.index t = ![0, 0] ∧ (grid0.coords t 0).val = t.val :=
  (by decide +kernel : ∀ t : Fin grid0.N, _)

theorem ld_l (c : Dev nD) (t : Fin cfg0.N) (j : Fin 10) (r : Fin 128) (q : Fin 1024) :
    grp j (iblk m c 2 t) (ix2 r q) = m ((c : Thread nD τ).loc main_arg2) (ix2 ⟨1280 * t.val + 128 * j.val + r.val, by have := lt_of_lt_of_eq t.isLt N_0; omega⟩ q) := by
  blk_ext [grp, View.ld, iblk, V, idx t]
  · show t.val * 1280 + (128 * j.val + 1 * r.val) = _; omega
  · show 0 + 1 * q.val = q.val; omega

theorem ld_w (c : Dev nD) (t : Fin cfg0.N) (j : Fin 10) (r : Fin 128) (d : Fin 1280) :
    grpW j (iblk m c 1 t) (ix2 r d) = m ((c : Thread nD τ).loc main_arg1) (ix2 ⟨1280 * t.val + 128 * j.val + r.val, by have := lt_of_lt_of_eq t.isLt N_0; omega⟩ d) := by
  blk_ext [grpW, View.ld, iblk, V, idx t]
  · show t.val * 1280 + (128 * j.val + 1 * r.val) = _; omega
  · show 0 + 1 * d.val = d.val; omega

theorem ld_lse (c : Dev nD) (t : Fin cfg0.N) (q : Fin 1024) :
    View.ld (iblk m c 3 t) (Rect.unit (s := S8x1024) ![0, 0] S1x1024.size inb_S8x1024_S1x1024_0_0) (ix2 0 q) = m ((c : Thread nD τ).loc main_arg3) (ix2 0 q) := by
  blk_ext [View.ld, iblk, V, idx t]
  · rfl
  · show 0 + 1 * q.val = q.val; omega

theorem ld_lab (c : Dev nD) (t : Fin cfg0.N) (q : Fin 1024) : iblk m c 4 t (ix2 0 q) = m ((c : Thread nD τ).loc main_arg4) (ix2 0 q) := by
  blk_ext [iblk, V, idx t]

theorem ld_mk (c : Dev nD) (t : Fin cfg0.N) (q : Fin 1024) : iblk m c 5 t (ix2 0 q) = m ((c : Thread nD τ).loc main_arg5) (ix2 0 q) := by
  blk_ext [iblk, V, idx t]

theorem ld_hd (c : Dev nD) (t : Fin cfg0.N) (q : Fin 1024) (d : Fin 1280) : iblk m c 6 t (ix2 q d) = m ((c : Thread nD τ).loc main_arg6) (ix2 q d) := by
  blk_ext [iblk, V, idx t]

/-- One element of a vector at a computed place. -/
theorem ld_one (x : Vec Ideal S250 .f32) (off : Fin 1 → ℕ) (h : ∀ a, off a + S1.size a ≤ S250.size a) (n : Fin 250) (hn : off 0 = n.val) :
    View.ld x (Rect.unit off S1.size h) (Shape.Idx.first one_pos_S1) = x (ix1 n) := by
  refine congrArg x (funext fun a => Fin.ext ?_)
  match a with
  | ⟨0, _⟩ => show off 0 + 1 * 0 = n.val; omega

/-- The group of rows `j` of a grid point. -/
abbrev gAt (t : Fin cfg0.N) (j : Fin 10) : Fin 250 := ⟨10 * t.val + j.val, by have := lt_of_lt_of_eq t.isLt N_0; omega⟩

theorem ld_ws (c : Dev nD) (t : Fin cfg0.N) (j : Fin 10) : wsB (grid0.coords t) (iblk m c 0 t) j = m ((c : Thread nD τ).loc main_arg0) (ix1 (gAt t j)) := by
  have ht := lt_of_lt_of_eq t.isLt N_0
  obtain ⟨-, -, -, -, -, -, -, hc⟩ := idx t
  have h0 : k0_off1 (grid0.coords t) (BitVec.ofNat 32 j.val) 0 = 10 * t.val + j.val := by
    rw [show k0_off1 (grid0.coords t) (BitVec.ofNat 32 j.val) = _ from k0_off1_eq (grid0.coords t) j, ← hc]; rfl
  refine (ld_one _ _ _ (gAt t j) h0).trans ?_
  blk_ext [iblk, V, idx t]

/-- The gradient of the logits, from the launch's arguments. -/
def Gm (c : Dev nD) : Fin 32000 → Fin 1024 → EReal :=
  gradAll (fun v q => m ((c : Thread nD τ).loc main_arg2) (ix2 v q)) (fun q => m ((c : Thread nD τ).loc main_arg3) (ix2 0 q))
    (fun q => m ((c : Thread nD τ).loc main_arg4) (ix2 0 q)) (fun q => m ((c : Thread nD τ).loc main_arg5) (ix2 0 q))

/-- The point's group `j` of the gradient. -/
def gBm (c : Dev nD) (t : Fin cfg0.N) (j : Fin 10) : FVec Ideal S128x1024 .f32 :=
  gB (grid0.coords t) (iblk m c 2 t) (iblk m c 3 t) (iblk m c 4 t) (iblk m c 5 t) j

/-- The first row of a group of a point, as the kernel computes it. -/
theorem off_eq (t : Fin cfg0.N) (j : Fin 10) :
    Scalar.addi (Scalar.muli (BitVec.ofNat 32 (grid0.coords t 0).val) 1280#32) (BitVec.ofNat 32 (128 * j.val)) = BitVec.ofNat 32 (128 * (gAt t j).val) := by
  obtain ⟨-, -, -, -, -, -, -, hc⟩ := idx t
  rw [hc]
  show BitVec.ofNat 32 t.val * BitVec.ofNat 32 1280 + BitVec.ofNat 32 (128 * j.val) = _
  rw [← BitVec.ofNat_mul, ← BitVec.ofNat_add]
  exact congrArg (BitVec.ofNat 32) (by show t.val * 1280 + 128 * j.val = 128 * (10 * t.val + j.val); omega)

theorem ld_l' (c : Dev nD) (t : Fin cfg0.N) (j : Fin 10) (r : Fin 128) (q : Fin 1024) :
    grp j (iblk m c 2 t) (ix2 r q) = m ((c : Thread nD τ).loc main_arg2) (ix2 (at_ (gAt t j) r) q) :=
  (ld_l m c t j r q).trans (congrArg (fun v => m ((c : Thread nD τ).loc main_arg2) (ix2 v q)) (Fin.ext (by show 1280 * t.val + 128 * j.val + r.val = 128 * (10 * t.val + j.val) + r.val; omega)))

/-- The point's gradient is the whole gradient at the point's rows. -/
theorem gBm_apply (c : Dev nD) (t : Fin cfg0.N) (j : Fin 10) (r : Fin 128) (q : Fin 1024) : gBm m c t j (ix2 r q) = Gm m c (at_ (gAt t j) r) q := by
  unfold gBm gB
  rw [gU_apply, ld_l', ld_lse, ld_lab, hit_eq (128 * (gAt t j).val) r.val (at_ (gAt t j) r).val rfl _ _ (off_eq t j)]
  simp only [ld_mk]
  rfl

theorem top_apply (c : Dev nD) (t : Fin cfg0.N) (j : Fin 10) (q : Fin 1024) : (top fun r => gBm m c t j (ix2 r q)) = top fun r => Gm m c (at_ (gAt t j) r) q :=
  congrArg top (funext fun r => gBm_apply m c t j r q)

theorem scBm_apply (c : Dev nD) (t : Fin cfg0.N) (j : Fin 10) (q : Fin 1024) : scaleU (expU (yU (gBm m c t j))) (ix2 0 q) = sc (Gm m c) (gAt t j) q := by
  rw [scales_apply, top_apply]; rfl

theorem grpOf_at (a : Fin 250) (r : Fin 128) : grpOf (at_ a r) = a := Fin.ext (by show (128 * a.val + r.val) / 128 = a.val; omega)

theorem cdBm_apply (c : Dev nD) (t : Fin cfg0.N) (j : Fin 10) (r : Fin 128) (q : Fin 1024) : codesU (gBm m c t j) (ix2 r q) = cd (Gm m c) (at_ (gAt t j) r) q := by
  rw [codesU_apply, top_apply, gBm_apply]; unfold cd; rw [grpOf_at]; rfl

theorem gdBm_apply (c : Dev nD) (t : Fin cfg0.N) (j : Fin 10) (r : Fin 128) (q : Fin 1024) : gdU (gBm m c t j) (ix2 r q) = gd (Gm m c) (at_ (gAt t j) r) q := by
  rw [gdU_apply, top_apply, gBm_apply]; unfold gd cd; rw [grpOf_at]; rfl

/-- The labels' logits from the launch's arguments. -/
def pickm (c : Dev nD) : Fin 32000 → Fin 1024 → EReal :=
  pick (fun v q => m ((c : Thread nD τ).loc main_arg2) (ix2 v q)) (fun q => m ((c : Thread nD τ).loc main_arg4) (ix2 0 q))

/-- Row `p` of eight, of the `k`-th of a group's sixteen. -/
abbrev sub (k : Fin 16) (p : Fin 8) : Fin 128 := ⟨k.val * 8 + p.val, by omega⟩

theorem tB_apply (c : Dev nD) (t : Fin cfg0.N) (j : Fin 10) (p : Fin 8) (q : Fin 1024) :
    tB (grid0.coords t) (iblk m c 2 t) (iblk m c 4 t) j (ix2 p q) = ∑ k : Fin 16, pickm m c (at_ (gAt t j) (sub k p)) q := by
  unfold tB
  rw [tU_apply]
  refine Finset.sum_congr rfl fun k _ => ?_
  rw [ld_l', ld_lab, hit_eq (128 * (gAt t j).val) (k.val * 8 + p.val) (at_ (gAt t j) (sub k p)).val rfl _ _ (off_eq t j)]
  rfl

/-- One addition into the accumulator, at an index. -/
theorem addT_apply (a b : FVec Ideal S8x1024 .f32) (p : Fin 8) (q : Fin 1024) : addT a b (ix2 p q) = a (ix2 p q) + b (ix2 p q) := by
  pointwise [addT]

/-- The accumulator after the ten groups, at an index. -/
theorem tgtB_apply (T : Fin 10 → FVec Ideal S8x1024 .f32) (a : FVec Ideal S8x1024 .f32) (p : Fin 8) (q : Fin 1024) :
    tgtB T a (ix2 p q) = a (ix2 p q) + ∑ j : Fin 10, T j (ix2 p q) := by
  unfold tgtB
  simp only [addT_apply, Fin.sum_univ_succ, Fin.sum_univ_zero, add_zero, add_assoc]
  rfl

/-- The constant the program writes for log 2 is log 2. -/
theorem ln2 : (Named.named κ "ln2" 1060205080#32 : Ideal .f32) = ((Real.log 2 : ℝ) : EReal) :=
  IdealRules.named_const.ideal_named_scalar _ _ _ _ rfl

/-- The loss of each token from the two accumulators, at a column. -/
theorem pay1_apply (a : FVec Ideal S1x1024 .f32) (mk : FVec Ideal S1x1024 .f32) (T : FVec Ideal S8x1024 .f32) (q : Fin 1024) :
    k0_pay1 (F := Ideal) a mk T (ix2 0 q) = (a (ix2 0 q) - ∑ p : Fin 8, T (ix2 p q)) * ((Real.log 2 : ℝ) : EReal) * mk (ix2 0 q) := by
  pointwise [k0_pay1]
  rw [ln2]

end Cert.BwdIdeal.Value

end
-- ==== Proof.BwdPoint.lean ====
module

public import proofs.«01_k».proof.Proof.BwdStep
public import proofs.«01_k».proof.Proof.BwdValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BwdIdeal.Value

open Cert.BwdIdeal Cert.BwdIdeal.Gen

open Cert.Quant

variable (m : (ℓ : Loc nD τ sig) → Buf (Elt Ideal) ℓ) (ρ : Dev nD → PrngReg)

/-- At every point: the block of the weight gradient. -/
theorem point7 (c : Dev nD) : ∀ (n : ℕ) (hn : n < cfg0.N) (y : S1280x1280.Idx), (outsAt0 m c n hn).1 y = dwB (fun j => gdU (gBm m c ⟨n, hn⟩ j)) (iblk m c 6 ⟨n, hn⟩) y := by
  intro n
  cases n with
  | zero =>
    intro hn y
    rw [outsAt0_zero, stAt0_A m c ⟨0, hn⟩ _ (Nat.zero_mod _) (by show ¬(0 % 25 = 24); omega)]; dsimp only; rw [out_A_7]; rfl
  | succ n =>
    intro hn y
    have hN := lt_of_lt_of_eq hn N_0
    rw [outsAt0_succ]
    by_cases h : (n + 1) % 25 = 24
    · rw [stAt0_C m c ⟨n + 1, hn⟩ _ (by show ¬((n + 1) % 25 = 0); omega) h]; dsimp only; rw [out_C_7]; rfl
    · rw [stAt0_B m c ⟨n + 1, hn⟩ _ (by show ¬((n + 1) % 25 = 0); omega) h]; dsimp only; rw [out_B_7]; rfl

/-- At every point: the block of codes. -/
theorem point8 (c : Dev nD) : ∀ (n : ℕ) (hn : n < cfg0.N) (y : S1x1024x1280.Idx), (outsAt0 m c n hn).2.1 y = stackC (fun j => codesU (gBm m c ⟨n, hn⟩ j)) y := by
  intro n
  cases n with
  | zero =>
    intro hn y
    rw [outsAt0_zero, stAt0_A m c ⟨0, hn⟩ _ (Nat.zero_mod _) (by show ¬(0 % 25 = 24); omega)]; dsimp only; rw [out_A_8]; rfl
  | succ n =>
    intro hn y
    have hN := lt_of_lt_of_eq hn N_0
    rw [outsAt0_succ]
    by_cases h : (n + 1) % 25 = 24
    · rw [stAt0_C m c ⟨n + 1, hn⟩ _ (by show ¬((n + 1) % 25 = 0); omega) h]; dsimp only; rw [out_C_8]; rfl
    · rw [stAt0_B m c ⟨n + 1, hn⟩ _ (by show ¬((n + 1) % 25 = 0); omega) h]; dsimp only; rw [out_B_8]; rfl

/-- At every point: the block of scales. -/
theorem point9 (c : Dev nD) : ∀ (n : ℕ) (hn : n < cfg0.N) (y : S1x10x1024.Idx), (outsAt0 m c n hn).2.2.1 y = stackS (fun j => scaleU (expU (yU (gBm m c ⟨n, hn⟩ j)))) y := by
  intro n
  cases n with
  | zero =>
    intro hn y
    rw [outsAt0_zero, stAt0_A m c ⟨0, hn⟩ _ (Nat.zero_mod _) (by show ¬(0 % 25 = 24); omega)]; dsimp only; rw [out_A_9]; rfl
  | succ n =>
    intro hn y
    have hN := lt_of_lt_of_eq hn N_0
    rw [outsAt0_succ]
    by_cases h : (n + 1) % 25 = 24
    · rw [stAt0_C m c ⟨n + 1, hn⟩ _ (by show ¬((n + 1) % 25 = 0); omega) h]; dsimp only; rw [out_C_9]; rfl
    · rw [stAt0_B m c ⟨n + 1, hn⟩ _ (by show ¬((n + 1) % 25 = 0); omega) h]; dsimp only; rw [out_B_9]; rfl

/-- A vocabulary row's part of the gradient of the activations, from the launch's arguments. -/
def dhTm (c : Dev nD) : Fin 1280 → Fin 1024 → Fin 32000 → EReal :=
  dhTerm (fun v d => m ((c : Thread nD τ).loc main_arg1) (ix2 v d)) (fun a => m ((c : Thread nD τ).loc main_arg0) (ix1 a)) (Gm m c)

/-- A group's row, from the row's place among the point's 1280. -/
abbrev rowAt (t : Fin cfg0.N) (v : Fin 1280) : Fin 32000 := at_ (gAt t ⟨v.val / 128, by omega⟩) ⟨v.val % 128, by omega⟩

/-- The part of a point's rows. -/
def dhAt (c : Dev nD) (d : Fin 1280) (q : Fin 1024) (n : ℕ) : EReal := if h : n < cfg0.N then ∑ v : Fin 1280, dhTm m c d q (rowAt ⟨n, h⟩ v) else 0

theorem dhtB_apply (c : Dev nD) (t : Fin cfg0.N) (acc : FVec Ideal S1280x1024 .f32) (d : Fin 1280) (q : Fin 1024) :
    dhtB (fun j => grpW j (iblk m c 1 t)) (wsB (grid0.coords t) (iblk m c 0 t)) (fun j => gdU (gBm m c t j)) acc (ix2 d q) = acc (ix2 d q) + dhAt m c d q t.val := by
  unfold dhtB dhAt
  rw [dif_pos t.isLt]
  refine congrArg (fun x => acc (ix2 d q) + x) (Finset.sum_congr rfl fun v _ => ?_)
  unfold dhTm dhTerm
  rw [grpOf_at, ld_ws]
  refine congrArg₂ (fun x y : EReal => x * y) (congrArg (fun x : EReal => x * _) ?_) (gdBm_apply m c t ⟨v.val / 128, by omega⟩ ⟨v.val % 128, by omega⟩ q)
  exact (ld_w m c t ⟨v.val / 128, by omega⟩ ⟨v.val % 128, by omega⟩ d).trans (congrArg (fun v => m ((c : Thread nD τ).loc main_arg1) (ix2 v d)) (Fin.ext (by show 1280 * t.val + 128 * (v.val / 128) + v.val % 128 = 128 * (10 * t.val + v.val / 128) + v.val % 128; omega)))

/-- The gradient of the activations after a point: the sum over the points so far. -/
theorem point10 (c : Dev nD) (d : Fin 1280) (q : Fin 1024) : ∀ (n : ℕ) (hn : n < cfg0.N), (outsAt0 m c n hn).2.2.2.1 (ix2 d q) = ∑ s ∈ Finset.range (n + 1), dhAt m c d q s := by
  intro n
  induction n with
  | zero =>
    intro hn
    rw [outsAt0_zero, stAt0_A m c ⟨0, hn⟩ _ (Nat.zero_mod _) (by show ¬(0 % 25 = 24); omega)]; dsimp only; rw [out_A_10]
    refine (dhtB_apply m c ⟨0, hn⟩ _ d q).trans ?_
    rw [Finset.sum_range_one, show (broadcast S1280x1024 (FloatOps.ofBits (F := Ideal) .f32 0#32) (ix2 d q) : EReal) = 0 by pointwise [], zero_add]
  | succ n ih =>
    intro hn
    have hN := lt_of_lt_of_eq hn N_0
    rw [outsAt0_succ, Finset.sum_range_succ, ← ih (Nat.lt_of_succ_lt hn)]
    by_cases h : (n + 1) % 25 = 24
    · rw [stAt0_C m c ⟨n + 1, hn⟩ _ (by show ¬((n + 1) % 25 = 0); omega) h]; dsimp only; rw [out_C_10]
      exact dhtB_apply m c ⟨n + 1, hn⟩ _ d q
    · rw [stAt0_B m c ⟨n + 1, hn⟩ _ (by show ¬((n + 1) % 25 = 0); omega) h]; dsimp only; rw [out_B_10]
      exact dhtB_apply m c ⟨n + 1, hn⟩ _ d q

/-- The part of a point's labels in row `p` of the accumulator. -/
def tgAt (c : Dev nD) (p : Fin 8) (q : Fin 1024) (n : ℕ) : EReal := if h : n < cfg0.N then ∑ j : Fin 10, ∑ k : Fin 16, pickm m c (at_ (gAt ⟨n, h⟩ j) (sub k p)) q else 0

theorem tgt_apply (c : Dev nD) (t : Fin cfg0.N) (acc : FVec Ideal S8x1024 .f32) (p : Fin 8) (q : Fin 1024) :
    tgtB (tB (grid0.coords t) (iblk m c 2 t) (iblk m c 4 t)) acc (ix2 p q) = acc (ix2 p q) + tgAt m c p q t.val := by
  unfold tgAt
  rw [dif_pos t.isLt, tgtB_apply]
  exact congrArg (fun x => acc (ix2 p q) + x) (Finset.sum_congr rfl fun j _ => tB_apply m c t j p q)

/-- The accumulator of the labels' logits after a point that is not the last. -/
theorem pointS (c : Dev nD) (p : Fin 8) (q : Fin 1024) : ∀ (n : ℕ) (hn : n < cfg0.N), n % 25 ≠ 24 → (outsAt0 m c n hn).2.2.2.2.2 (ix2 p q) = ∑ s ∈ Finset.range (n + 1), tgAt m c p q s := by
  intro n
  induction n with
  | zero =>
    intro hn _
    rw [outsAt0_zero, stAt0_A m c ⟨0, hn⟩ _ (Nat.zero_mod _) (by show ¬(0 % 25 = 24); omega)]; dsimp only; rw [sout_A]
    refine (tgt_apply m c ⟨0, hn⟩ _ p q).trans ?_
    rw [Finset.sum_range_one, show (shapeCast S8x1024 (broadcast S8x1024 (FloatOps.ofBits (F := Ideal) .f32 0#32)) shapeCasts_S8x1024_S8x1024 (ix2 p q) : EReal) = 0 by pointwise [], zero_add]
  | succ n ih =>
    intro hn h
    have hN := lt_of_lt_of_eq hn N_0
    rw [outsAt0_succ, Finset.sum_range_succ, ← ih (Nat.lt_of_succ_lt hn) (by omega), stAt0_B m c ⟨n + 1, hn⟩ _ (by show ¬((n + 1) % 25 = 0); omega) h]
    dsimp only
    rw [sout_B]
    exact tgt_apply m c ⟨n + 1, hn⟩ _ p q

/-- The losses of the tokens, at the last point. -/
theorem point11 (c : Dev nD) (q : Fin 1024) (n : ℕ) (hn : n + 1 < cfg0.N) (h : (n + 1) % 25 = 24) :
    (outsAt0 m c (n + 1) hn).2.2.2.2.1 (ix2 0 q) = tok (m ((c : Thread nD τ).loc main_arg3) (ix2 0 q)) (∑ p : Fin 8, ∑ s ∈ Finset.range (n + 2), tgAt m c p q s) (m ((c : Thread nD τ).loc main_arg5) (ix2 0 q)) := by
  rw [outsAt0_succ, stAt0_C m c ⟨n + 1, hn⟩ _ (by show ¬((n + 1) % 25 = 0); omega) h]
  dsimp only
  rw [out_C_11, pay1_apply, ld_lse]
  unfold tok
  refine congrArg₂ (fun x y : EReal => x * y) (congrArg (fun x : EReal => (_ - x) * _) (Finset.sum_congr rfl fun p _ => ?_)) ?_
  · refine (tgt_apply m c ⟨n + 1, hn⟩ _ p q).trans ?_
    rw [Finset.sum_range_succ, ← pointS m c p q n (Nat.lt_of_succ_lt hn) (by omega)]
  · exact congrArg (fun b : BitVec 32 => ((b.toInt : ℝ) : EReal)) (ld_mk m c ⟨n + 1, hn⟩ q)

/-- A sum over `n * k` terms, as `n` sums of `k`. -/
theorem sum_two (n k : ℕ) (f : Fin (n * k) → EReal) : (∑ x, f x) = ∑ a : Fin n, ∑ b : Fin k, f (finProdFinEquiv (a, b)) := by
  rw [← Fintype.sum_prod_type' (f := fun (a : Fin n) (b : Fin k) => f (finProdFinEquiv (a, b)))]
  exact (Equiv.sum_comp finProdFinEquiv f).symm

/-- The points' sums are the sum over the vocabulary. -/
theorem dh_sum (c : Dev nD) (d : Fin 1280) (q : Fin 1024) : (∑ s ∈ Finset.range 25, dhAt m c d q s) = ∑ v : Fin 32000, dhTm m c d q v := by
  rw [show (∑ v : Fin 32000, dhTm m c d q v) = ∑ a : Fin 25, ∑ b : Fin 1280, dhTm m c d q (finProdFinEquiv (a, b) : Fin (25 * 1280)) from sum_two 25 1280 (dhTm m c d q), Finset.sum_range]
  refine Finset.sum_congr rfl fun a _ => ?_
  unfold dhAt
  rw [dif_pos (lt_of_lt_of_eq a.isLt N_0.symm)]
  refine Finset.sum_congr rfl fun b _ => congrArg (dhTm m c d q) (Fin.ext ?_)
  show 128 * (10 * a.val + b.val / 128) + b.val % 128 = b.val + 1280 * a.val
  omega

/-- The points' sums of the labels' logits are the sum over the vocabulary. -/
theorem tg_sum (c : Dev nD) (q : Fin 1024) : (∑ p : Fin 8, ∑ s ∈ Finset.range 25, tgAt m c p q s) = ∑ v : Fin 32000, pickm m c v q := by
  have e1 : (∑ v : Fin 32000, pickm m c v q) = ∑ a : Fin 4000, ∑ p : Fin 8, pickm m c (finProdFinEquiv (a, p) : Fin (4000 * 8)) q := sum_two 4000 8 fun v => pickm m c v q
  rw [e1]
  refine Eq.trans ?_ (Finset.sum_comm (s := (Finset.univ : Finset (Fin 8))) (t := (Finset.univ : Finset (Fin 4000))))
  refine Finset.sum_congr rfl fun p _ => ?_
  have e2 : (∑ a : Fin 4000, pickm m c (finProdFinEquiv (a, p) : Fin (4000 * 8)) q) = ∑ s : Fin 250, ∑ k : Fin 16, pickm m c (finProdFinEquiv ((finProdFinEquiv (s, k) : Fin (250 * 16)), p) : Fin (4000 * 8)) q :=
    sum_two 250 16 fun a => pickm m c (finProdFinEquiv (a, p) : Fin (4000 * 8)) q
  have e3 : (∑ s : Fin 250, ∑ k : Fin 16, pickm m c (finProdFinEquiv ((finProdFinEquiv (s, k) : Fin (250 * 16)), p) : Fin (4000 * 8)) q) = ∑ t : Fin 25, ∑ j : Fin 10, ∑ k : Fin 16, pickm m c (finProdFinEquiv ((finProdFinEquiv ((finProdFinEquiv (t, j) : Fin (25 * 10)), k) : Fin (250 * 16)), p) : Fin (4000 * 8)) q :=
    sum_two 25 10 fun s => ∑ k : Fin 16, pickm m c (finProdFinEquiv ((finProdFinEquiv (s, k) : Fin (250 * 16)), p) : Fin (4000 * 8)) q
  rw [e2, e3, Finset.sum_range]
  refine Finset.sum_congr rfl fun t _ => ?_
  unfold tgAt
  rw [dif_pos (lt_of_lt_of_eq t.isLt N_0.symm)]
  refine Finset.sum_congr rfl fun j _ => Finset.sum_congr rfl fun k _ => congrArg (fun v => pickm m c v q) (Fin.ext ?_)
  show 128 * (10 * t.val + j.val) + (k.val * 8 + p.val) = p.val + 8 * (k.val + 16 * (j.val + 10 * t.val))
  omega

end Cert.BwdIdeal.Value

end
-- ==== Proof.BwdArr.lean ====
module

public import proofs.«01_k».proof.Proof.BwdPoint
public import proofs.«01_k».proof.Proof.BwdValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BwdIdeal.Value

open Cert.BwdIdeal Cert.BwdIdeal.Gen

open Cert.Quant

variable (m : (ℓ : Loc nD τ sig) → Buf (Elt Ideal) ℓ) (ρ : Dev nD → PrngReg)

/-- The first array: the weight gradient, from the whole gradient of the logits. -/
theorem G7_apply (c : Dev nD) (v : Fin 32000) (d : Fin 1280) : G7 m c (ix2 v d) = dwSum (Gm m c) (fun q d => m ((c : Thread nD τ).loc main_arg6) (ix2 q d)) v d := by
  have hp : pt7Of (ix2 v d) = v.val / 1280 := by
    show 1 * (v.val / 1280 - 0) + 1 * (d.val / 1280 - 0) = _
    omega
  have hlt : pt7Of (ix2 v d) < cfg0.N := by rw [hp]; exact lt_of_lt_of_eq (by omega) N_0.symm
  unfold G7
  rw [dif_pos hlt, ← outsAt0_sweep m c _ hlt, point7]
  unfold dwB dwSum
  refine Finset.sum_congr (M := EReal) rfl fun q _ => congrArg₂ (fun x y : EReal => x * y) ?_ ?_
  · refine (gdBm_apply m c ⟨_, hlt⟩ ⟨v.val % 1280 / 128, by omega⟩ ⟨v.val % 1280 % 128, by omega⟩ q).trans (congrArg (fun v => gd (Gm m c) v q) (Fin.ext ?_))
    show 128 * (10 * pt7Of (ix2 v d) + v.val % 1280 / 128) + v.val % 1280 % 128 = v.val
    rw [hp]; omega
  · refine (ld_hd m c ⟨_, hlt⟩ q ⟨d.val % 1280, by omega⟩).trans (congrArg (fun d => m ((c : Thread nD τ).loc main_arg6) (ix2 q d)) (Fin.ext ?_))
    show d.val % 1280 = d.val
    omega

/-- Row `a * 6400 + n` of the vocabulary. -/
abbrev vrow (a : Fin 5) (n : Fin 6400) : Fin 32000 := ⟨a.val * 6400 + n.val, by omega⟩

/-- The second array: the codes. -/
theorem G8_apply (c : Dev nD) (a : Fin 5) (q : Fin 1024) (n : Fin 6400) : G8 m c (ix3 a q n) = cd (Gm m c) (vrow a n) q := by
  have hp : pt8Of (ix3 a q n) = 5 * a.val + n.val / 1280 := by
    show 5 * (a.val / 1 - 0) + 5 * (q.val / 1024 - 0) + 1 * (n.val / 1280 - 0) = _
    omega
  have hlt : pt8Of (ix3 a q n) < cfg0.N := by rw [hp]; exact lt_of_lt_of_eq (by omega) N_0.symm
  unfold G8
  rw [dif_pos hlt, ← outsAt0_sweep m c _ hlt, point8]
  unfold stackC
  refine (cdBm_apply m c ⟨_, hlt⟩ ⟨n.val % 1280 / 128, by omega⟩ ⟨n.val % 1280 % 128, by omega⟩ ⟨q.val % 1024, by omega⟩).trans ?_
  refine congrArg₂ (fun v q => cd (Gm m c) v q) (Fin.ext ?_) (Fin.ext ?_)
  · show 128 * (10 * pt8Of (ix3 a q n) + n.val % 1280 / 128) + n.val % 1280 % 128 = a.val * 6400 + n.val
    rw [hp]; omega
  · show q.val % 1024 = q.val; omega

/-- The third array: the scales. -/
theorem G9_apply (c : Dev nD) (a : Fin 25) (j : Fin 10) (q : Fin 1024) : G9 m c (ix3 a j q) = sc (Gm m c) ⟨a.val * 10 + j.val, by omega⟩ q := by
  have hp : pt9Of (ix3 a j q) = a.val := by
    show 1 * (a.val / 1 - 0) + 1 * (j.val / 10 - 0) + 1 * (q.val / 1024 - 0) = _
    omega
  have hlt : pt9Of (ix3 a j q) < cfg0.N := by rw [hp]; exact lt_of_lt_of_eq (by omega) N_0.symm
  unfold G9
  rw [dif_pos hlt, ← outsAt0_sweep m c _ hlt, point9]
  unfold stackS
  refine (scBm_apply m c ⟨_, hlt⟩ ⟨j.val % 10, by omega⟩ ⟨q.val % 1024, by omega⟩).trans ?_
  refine congrArg₂ (fun v q => sc (Gm m c) v q) (Fin.ext ?_) (Fin.ext ?_)
  · show 10 * pt9Of (ix3 a j q) + j.val % 10 = a.val * 10 + j.val
    rw [hp]; omega
  · show q.val % 1024 = q.val; omega

/-- The fourth array: the gradient of the activations. -/
theorem G10_apply (c : Dev nD) (d : Fin 1280) (q : Fin 1024) : G10 m c (ix2 d q) = ∑ v : Fin 32000, dhTm m c d q v := by
  rw [G10_last, ← outsAt0_sweep m c 24 (lt_of_lt_of_eq (by decide) N_0.symm)]
  exact (point10 m c d q 24 _).trans (dh_sum m c d q)

/-- The fifth array: the tokens' losses. -/
theorem G11_apply (c : Dev nD) (q : Fin 1024) : G11 m c (ix2 0 q) = tok (m ((c : Thread nD τ).loc main_arg3) (ix2 0 q)) (∑ v : Fin 32000, pickm m c v q) (m ((c : Thread nD τ).loc main_arg5) (ix2 0 q)) := by
  rw [G11_last, ← outsAt0_sweep m c 24 (lt_of_lt_of_eq (by decide) N_0.symm)]
  refine (point11 m c q 23 _ (by decide)).trans ?_
  rw [show (23 + 2 : ℕ) = 25 from rfl, tg_sum]

end Cert.BwdIdeal.Value

end
-- ==== Proof.BwdRefPoint.lean ====
module

public import proofs.«01_k».proof.Proof.Gen.BwdRefIdeal.Frame
public import proofs.«01_k».proof.Proof.BwdMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BwdRefIdeal.Value

open Cert.BwdRefIdeal Cert.BwdRefIdeal.Gen

open Cert.Quant

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem lift_mid {r : S250x128x1024.Reduces [1] S250x1024} (a : Fin 250) (q : Fin 1024) (k : Fin 128) : r.lift (ix2 a q) k = ix3 a k q := by
  funext b
  refine Fin.ext ?_
  match b with | ⟨0, _⟩ => rfl | ⟨1, _⟩ => rfl | ⟨2, _⟩ => rfl

/-- The maximum over the middle axis, at an index. -/
theorem ref_fold (X : FVec Ideal S250x128x1024 .f32) (a : Fin 250) (q : Fin 1024) :
    multiReduction .maximumf [1] S250x1024 X 0xFF800000#32 reduces_S250x128x1024_S250x1024 (.inl rfl) rfl (ix2 a q)
      = Finset.fold max (Ideal.ofBits .f32 4286578688#32) (fun r : Fin 128 => X (ix3 a r q)) Finset.univ := by
  have key := Ideal.multiReduction_maximumf_single (a := (1 : Fin S250x128x1024.rank)) X 0xFF800000#32 reduces_S250x128x1024_S250x1024 (.inl rfl) rfl (ix2 a q)
  refine Eq.trans key ?_
  refine Finset.fold_congr fun r _ => ?_
  exact congrArg X (lift_mid a q r)

/-- The constant the reference writes for log 2 is log 2. -/
theorem ln2 : (Named.named κ "ln2" 1060205080#32 : Ideal .f32) = ((Real.log 2 : ℝ) : EReal) :=
  IdealRules.named_const.ideal_named_scalar _ _ _ _ rfl

theorem scale_row (M : FVec Ideal S250x1024 .f32) (a : Fin 250) (q : Fin 1024) :
    mulf (shapeCast S250x1x1024 M shapeCasts_S250x1024_S250x1x1024) (broadcast S250x1x1024 (FloatOps.ofBits (F := Ideal) .f32 932333861#32)) (ix3 a 0 q) = M (ix2 a q) * Ideal.ofBits .f32 932333861#32 := by
  pointwise []

theorem less_apply (y : FVec Ideal S250x1x1024 .f32) (a : Fin 250) (q : Fin 1024) :
    cmpf .olt y (broadcast S250x1x1024 (FloatOps.ofBits (F := Ideal) .f32 8388608#32)) (ix3 a 0 q) = BitVec.ofBool (decide (y (ix3 a 0 q) < Ideal.ofBits .f32 8388608#32)) := by
  pointwise []

theorem exp_apply (y : FVec Ideal S250x1x1024 .f32) (a : Fin 250) (q : Fin 1024) :
    addf (floor (divf (log y) (broadcast S250x1x1024 (Named.named (F := Ideal) κ "ln2" 1060205080#32)))) (broadcast S250x1x1024 (FloatOps.ofBits (F := Ideal) .f32 1065353216#32)) (ix3 a 0 q)
      = Ideal.liftRound Int.floor (Ideal.div (Ideal.log (y (ix3 a 0 q))) ((Real.log 2 : ℝ) : EReal)) + 1 := by
  rw [← ln2]
  pointwise []

section Point

variable (L : Vec Ideal S32000x1024 .f32) (E : Vec Ideal S1x1024 .f32) (M B : Vec Ideal S1x1024 .i32)

/-- The gradient of the logits, from the arguments. -/
def Gr : Fin 32000 → Fin 1024 → EReal := gradAll (fun v q => L (ix2 v q)) (fun q => E (ix2 0 q)) (fun q => B (ix2 0 q)) (fun q => M (ix2 0 q))

theorem pay6_raw (a : Fin 250) (r : Fin 128) (q : Fin 1024) : k0_pay6 (F := Ideal) L E M B (ix3 a r q) = Gr L E M B ⟨a.val * 128 + r.val, by omega⟩ q := by
  pointwise [k0_pay6, k0_pay2, k0_pay3, k0_pay4, k0_pay5]
  rw [ln2]
  unfold Gr gradAll grad weight
  rw [← exp_base]
  rfl

/-- The reference's gradient, at an index. -/
theorem pay6_apply (a : Fin 250) (r : Fin 128) (q : Fin 1024) : k0_pay6 (F := Ideal) L E M B (ix3 a r q) = Gr L E M B (at_ a r) q :=
  (pay6_raw L E M B a r q).trans (congrArg (fun v => Gr L E M B v q) (Fin.ext (by show a.val * 128 + r.val = 128 * a.val + r.val; omega)))

/-- The reference's scaled maximum, at an index. -/
theorem pay7_apply (a : Fin 250) (q : Fin 1024) : k0_pay7 (F := Ideal) L E M B (ix3 a 0 q) = top fun r => Gr L E M B (at_ a r) q := by
  unfold k0_pay7
  refine (scale_row _ a q).trans ?_
  rw [ref_fold]
  unfold top
  refine congrArg (fun x : EReal => x * _) (Finset.fold_congr fun r _ => ?_)
  show max (k0_pay6 (F := Ideal) L E M B (ix3 a r q) : EReal) (-(k0_pay6 (F := Ideal) L E M B (ix3 a r q))) = _
  rw [pay6_apply]

/-- The reference's exponent, at an index. -/
theorem exp_at (a : Fin 250) (q : Fin 1024) :
    Scalar.select (k0_pay8 (F := Ideal) L E M B (ix3 a 0 q)) (0 : EReal) (k0_pay9 (F := Ideal) L E M B (ix3 a 0 q)) = rexp (top fun r => Gr L E M B (at_ a r) q) := by
  have h8 : k0_pay8 (F := Ideal) L E M B (ix3 a 0 q) = _ := less_apply (k0_pay7 L E M B) a q
  have h9 : k0_pay9 (F := Ideal) L E M B (ix3 a 0 q) = _ := exp_apply (k0_pay7 L E M B) a q
  rw [h8, h9, pay7_apply]
  rfl

end Point

section Pay

variable (v27 : FVec Ideal S250x128x1024 .f32) (v34 : IVec S250x1x1024 1) (v40 : FVec Ideal S250x1x1024 .f32)

theorem pay11_apply (a : Fin 250) (q : Fin 1024) : k0_pay11 v34 v40 (ix3 a 0 q) = Ideal.exp2 (Scalar.select (v34 (ix3 a 0 q)) (0 : EReal) (v40 (ix3 a 0 q))) := by
  pointwise [k0_pay11, k0_pay10]
  rfl

theorem pay12_apply (a : Fin 250) (r : Fin 128) (q : Fin 1024) :
    k0_pay12 v27 v34 v40 (ix3 a r q) = code (v27 (ix3 a r q)) (Ideal.exp2 (0 - Scalar.select (v34 (ix3 a 0 q)) (0 : EReal) (v40 (ix3 a 0 q)))) := by
  pointwise [k0_pay12, k0_pay10]
  rfl

theorem pay13_apply (v : Fin 32000) (q : Fin 1024) :
    k0_pay13 v27 v34 v40 (ix2 v q) = k0_pay12 v27 v34 v40 (ix3 ⟨v.val / 128, by omega⟩ ⟨v.val % 128, by omega⟩ q) * k0_pay11 v34 v40 (ix3 ⟨v.val / 128, by omega⟩ 0 q) := by
  pointwise [k0_pay13]

theorem pay14_apply (H : Vec Ideal S1024x1280 .bf16) (v : Fin 32000) (d : Fin 1280) : k0_pay14 v27 v34 v40 H (ix2 v d) = ∑ q : Fin 1024, k0_pay13 v27 v34 v40 (ix2 v q) * H (ix2 q d) := by
  unfold k0_pay14
  generalize k0_pay13 v27 v34 v40 = P
  pointwise []

theorem pay15_apply (a : Fin 5) (q : Fin 1024) (n : Fin 6400) : k0_pay15 v27 v34 v40 (ix3 a q n) = k0_pay12 v27 v34 v40 (ix3 ⟨a.val * 50 + n.val / 128, by omega⟩ ⟨n.val % 128, by omega⟩ q) := by
  unfold k0_pay15
  generalize k0_pay12 v27 v34 v40 = P
  pointwise []

theorem pay16_apply (a : Fin 25) (j : Fin 10) (q : Fin 1024) : k0_pay16 v34 v40 (ix3 a j q) = k0_pay11 v34 v40 (ix3 ⟨a.val * 10 + j.val, by omega⟩ 0 q) := by
  unfold k0_pay16
  generalize k0_pay11 v34 v40 = P
  pointwise []

theorem pay17_apply (S : Vec Ideal S250 .f32) (W : Vec Ideal S32000x1280 .fp8e4m3) (d : Fin 1280) (q : Fin 1024) :
    k0_pay17 v27 v34 v40 S W (ix2 d q) = ∑ v : Fin 32000, W (ix2 v d) * S (ix1 ⟨v.val / 128, by omega⟩) * k0_pay13 v27 v34 v40 (ix2 v q) := by
  unfold k0_pay17
  generalize k0_pay13 v27 v34 v40 = P
  pointwise []

end Pay

end Cert.BwdRefIdeal.Value

end
-- ==== Proof.BwdRefOut.lean ====
module

public import proofs.«01_k».proof.Proof.BwdRefPoint
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BwdRefIdeal.Value

open Cert.BwdRefIdeal Cert.BwdRefIdeal.Gen

open Cert.Quant

variable (S : Vec Ideal S250 .f32) (W : Vec Ideal S32000x1280 .fp8e4m3) (L : Vec Ideal S32000x1024 .f32) (E : Vec Ideal S8x1024 .f32) (B M : Vec Ideal S1x1024 .i32) (H : Vec Ideal S1024x1280 .bf16)

/-- The one row of log-sum-exps that the reference reads. -/
abbrev E0 : Vec Ideal S1x1024 .f32 := View.ld E r0_1

theorem E0_apply (q : Fin 1024) : E0 E (ix2 0 q) = E (ix2 0 q) := by
  unfold E0
  refine congrArg E (funext fun a => Fin.ext ?_)
  match a with
  | ⟨0, _⟩ => rfl
  | ⟨1, _⟩ => show 0 + 1 * q.val = q.val; omega

/-- The gradient of the logits, from the arguments. -/
def Ga : Fin 32000 → Fin 1024 → EReal := gradAll (fun v q => L (ix2 v q)) (fun q => E (ix2 0 q)) (fun q => B (ix2 0 q)) (fun q => M (ix2 0 q))

theorem Gr_eq : Gr L (E0 E) M B = Ga L E B M := by
  unfold Gr Ga
  rw [show (fun q : Fin 1024 => E0 E (ix2 0 q)) = fun q => E (ix2 0 q) from funext fun q => E0_apply E q]

variable (h : ∀ (v : Fin 32000) (q : Fin 1024), (L (ix2 v q) : EReal) ≤ E (ix2 0 q))
include h

/-- The reference's scales. -/
theorem scale_at (a : Fin 250) (q : Fin 1024) : k0_pay11 (k0_pay8 L (E0 E) M B) (k0_pay9 L (E0 E) M B) (ix3 a 0 q) = sc (Ga L E B M) a q := by
  rw [pay11_apply, exp_at, Gr_eq]
  obtain ⟨h0, h1⟩ := gradAll_bounds (fun v q => L (ix2 v q)) (fun q => E (ix2 0 q)) (fun q => B (ix2 0 q)) (fun q => M (ix2 0 q)) h a q
  exact scale_eq _ h0 h1

/-- The reference's codes. -/
theorem code_at (v : Fin 32000) (a : Fin 250) (r : Fin 128) (hv : v.val = 128 * a.val + r.val) (q : Fin 1024) :
    k0_pay12 (k0_pay6 L (E0 E) M B) (k0_pay8 L (E0 E) M B) (k0_pay9 L (E0 E) M B) (ix3 a r q) = cd (Ga L E B M) v q := by
  obtain rfl : v = at_ a r := Fin.ext hv
  rw [pay12_apply, exp_at, pay6_apply, Gr_eq]
  obtain ⟨h0, h1⟩ := gradAll_bounds (fun v q => L (ix2 v q)) (fun q => E (ix2 0 q)) (fun q => B (ix2 0 q)) (fun q => M (ix2 0 q)) h a q
  unfold cd
  rw [show grpOf (at_ a r) = a from Fin.ext (by show (128 * a.val + r.val) / 128 = a.val; omega)]
  exact congrArg (code _) (inv_eq _ h0 h1)

/-- The reference's dequantised gradient. -/
theorem gd_at (v : Fin 32000) (q : Fin 1024) :
    k0_pay13 (k0_pay6 L (E0 E) M B) (k0_pay8 L (E0 E) M B) (k0_pay9 L (E0 E) M B) (ix2 v q) = gd (Ga L E B M) v q := by
  rw [pay13_apply, code_at L E B M h v ⟨v.val / 128, by omega⟩ ⟨v.val % 128, by omega⟩ (by show v.val = 128 * (v.val / 128) + v.val % 128; omega) q, scale_at L E B M h]
  rfl

/-- The reference's weight gradient. -/
theorem out7_apply (v : Fin 32000) (d : Fin 1280) : out0_7 S W L E B M H (ix2 v d) = dwSum (Ga L E B M) (fun q d => H (ix2 q d)) v d := by
  unfold out0_7 k0_pay20 k0_pay19 k0_pay18
  rw [View.canon_unit_zero hz2, View.ld_unit_zero (S := S32000x1024) hz2 _ L, View.ld_unit_zero (S := S1x1024) hz2 _ B, View.ld_unit_zero (S := S1x1024) hz2 _ M, View.ld_unit_zero (S := S1024x1280) hz2 _ H, pay14_apply]
  unfold dwSum
  exact Finset.sum_congr (M := EReal) rfl fun q _ => congrArg (fun x : EReal => x * H (ix2 q d)) (gd_at L E B M h v q)

/-- The reference's codes, as stored. -/
theorem out8_apply (a : Fin 5) (q : Fin 1024) (n : Fin 6400) : out0_8 S W L E B M H (ix3 a q n) = cd (Ga L E B M) ⟨a.val * 6400 + n.val, by omega⟩ q := by
  unfold out0_8 k0_pay20 k0_pay19 k0_pay18
  rw [View.canon_unit_zero hz3, View.ld_unit_zero (S := S32000x1024) hz2 _ L, View.ld_unit_zero (S := S1x1024) hz2 _ B, View.ld_unit_zero (S := S1x1024) hz2 _ M, pay15_apply]
  exact code_at L E B M h _ _ _ (by show a.val * 6400 + n.val = 128 * (a.val * 50 + n.val / 128) + n.val % 128; omega) q

/-- The reference's scales, as stored. -/
theorem out9_apply (a : Fin 25) (j : Fin 10) (q : Fin 1024) : out0_9 S W L E B M H (ix3 a j q) = sc (Ga L E B M) ⟨a.val * 10 + j.val, by omega⟩ q := by
  unfold out0_9 k0_pay20 k0_pay19
  rw [View.canon_unit_zero hz3, View.ld_unit_zero (S := S32000x1024) hz2 _ L, View.ld_unit_zero (S := S1x1024) hz2 _ B, View.ld_unit_zero (S := S1x1024) hz2 _ M, pay16_apply]
  exact scale_at L E B M h _ q

/-- The reference's gradient of the activations. -/
theorem out10_apply (d : Fin 1280) (q : Fin 1024) : out0_10 S W L E B M H (ix2 d q) = ∑ v : Fin 32000, dhTerm (fun v d => W (ix2 v d)) (fun a => S (ix1 a)) (Ga L E B M) d q v := by
  unfold out0_10 k0_pay20 k0_pay19 k0_pay18
  rw [View.canon_unit_zero hz2, View.ld_unit_zero (S := S32000x1024) hz2 _ L, View.ld_unit_zero (S := S1x1024) hz2 _ B, View.ld_unit_zero (S := S1x1024) hz2 _ M, View.ld_unit_zero (S := S250) hz1 _ S, View.ld_unit_zero (S := S32000x1280) hz2 _ W, pay17_apply]
  exact Finset.sum_congr (M := EReal) rfl fun v _ => congrArg (fun x : EReal => W (ix2 v d) * S (ix1 (grpOf v)) * x) (gd_at L E B M h v q)

omit h

theorem pay1_apply (l : FVec Ideal S32000x1024 .f32) (e mk : FVec Ideal S1x1024 .f32) (b : IVec S32000x1024 1) (q : Fin 1024) :
    k0_pay1 (F := Ideal) l e mk b (ix2 0 q) = (e (ix2 0 q) - ∑ v : Fin 32000, Scalar.select (b (ix2 v q)) (l (ix2 v q)) 0) * mk (ix2 0 q) := by
  pointwise [k0_pay1]

/-- The reference's losses of the tokens. -/
theorem out11_apply (q : Fin 1024) : out0_11 S W L E B M H (ix2 0 q) = tok (E (ix2 0 q)) (∑ v : Fin 32000, pick (fun v q => L (ix2 v q)) (fun q => B (ix2 0 q)) v q) (M (ix2 0 q)) := by
  have e2 : ∀ v : Fin 32000, k0_pay2 (F := Ideal) L (ix2 v q) = L (ix2 v q) * ((Real.log 2 : ℝ) : EReal) := fun v => by
    pointwise [k0_pay2]; rw [ln2]
  have e3 : k0_pay3 (F := Ideal) (E0 E) (ix2 0 q) = E (ix2 0 q) * ((Real.log 2 : ℝ) : EReal) := by
    have e0 := E0_apply E q
    generalize E0 E = X at e0 ⊢
    pointwise [k0_pay3]
    rw [ln2, e0]
  have e5 : ∀ v : Fin 32000, k0_pay5 (F := Ideal) B (ix2 v q) = IntOp.cmpi .eq (BitVec.ofNat 32 v.val) (B (ix2 0 q)) := fun v => by
    pointwise [k0_pay5]
  have hl : 0 < Real.log 2 := Real.log_pos (by norm_num)
  unfold out0_11
  rw [View.canon_unit_zero hz2, View.ld_unit_zero (S := S32000x1024) hz2 _ L, View.ld_unit_zero (S := S1x1024) hz2 _ B, View.ld_unit_zero (S := S1x1024) hz2 _ M, pay1_apply, e3]
  unfold tok pick
  refine congrArg₂ (fun x y : EReal => x * y) (Eq.trans (congrArg (fun x : EReal => E (ix2 0 q) * ((Real.log 2 : ℝ) : EReal) - x) ?_) (Cert.Lse.sub_mul_pos _ _ hl)) ?_
  · refine Eq.trans (Finset.sum_congr (M := EReal) rfl fun v _ => ?_) (sum_mul_pos _ _ hl)
    rw [e2, e5]
    generalize IntOp.cmpi .eq (BitVec.ofNat 32 v.val) (B (ix2 0 q)) = b
    unfold Scalar.select
    split <;> simp
  · pointwise [k0_pay4]
    rfl

end Cert.BwdRefIdeal.Value

end
-- ==== Proof.BwdRefArr.lean ====
module

public import proofs.«01_k».proof.Proof.Gen.BwdRefIdeal.Frame
public import proofs.«01_k».proof.Proof.BwdMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BwdRefIdeal.Value

open Cert.BwdRefIdeal Cert.BwdRefIdeal.Gen

variable (m : (ℓ : Loc nD τ sig) → Buf (Elt Ideal) ℓ) (ρ : Dev nD → PrngReg)

/-- The index maps of the windows at the one grid point. -/
theorem idx : ∀ t : Fin cfg0.N, win0_0.index t = ![0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem blk0 (c : Dev nD) (t : Fin cfg0.N) : iblk m c 0 t = m ((c : Thread nD τ).loc main_arg0) := by
  funext j
  blk_ext [iblk, V, idx t]

theorem blk1 (c : Dev nD) (t : Fin cfg0.N) : iblk m c 1 t = m ((c : Thread nD τ).loc main_arg1) := by
  funext j
  blk_ext [iblk, V, idx t]

theorem blk2 (c : Dev nD) (t : Fin cfg0.N) : iblk m c 2 t = m ((c : Thread nD τ).loc main_arg2) := by
  funext j
  blk_ext [iblk, V, idx t]

theorem blk3 (c : Dev nD) (t : Fin cfg0.N) : iblk m c 3 t = m ((c : Thread nD τ).loc main_arg3) := by
  funext j
  blk_ext [iblk, V, idx t]

theorem blk4 (c : Dev nD) (t : Fin cfg0.N) : iblk m c 4 t = m ((c : Thread nD τ).loc main_arg4) := by
  funext j
  blk_ext [iblk, V, idx t]

theorem blk5 (c : Dev nD) (t : Fin cfg0.N) : iblk m c 5 t = m ((c : Thread nD τ).loc main_arg5) := by
  funext j
  blk_ext [iblk, V, idx t]

theorem blk6 (c : Dev nD) (t : Fin cfg0.N) : iblk m c 6 t = m ((c : Thread nD τ).loc main_arg6) := by
  funext j
  blk_ext [iblk, V, idx t]

/-- The first array after the run. -/
theorem final7 (c : Dev nD) : (dats m 0 c).arrAt 7 cfg0.N = out0_7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 7 t0_0 (by decide +kernel) _ fun j => ?_
  rw [after0_7, blk0, blk1, blk2, blk3, blk4, blk5, blk6]
  generalize out0_7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = O
  rfl

/-- The second array after the run. -/
theorem final8 (c : Dev nD) : (dats m 0 c).arrAt 8 cfg0.N = out0_8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 8 t0_0 (by decide +kernel) _ fun j => ?_
  rw [after0_8, blk0, blk1, blk2, blk3, blk4, blk5, blk6]
  generalize out0_8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = O
  rfl

/-- The third array after the run. -/
theorem final9 (c : Dev nD) : (dats m 0 c).arrAt 9 cfg0.N = out0_9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_0 (by decide +kernel) _ fun j => ?_
  rw [after0_9, blk0, blk1, blk2, blk3, blk4, blk5, blk6]
  generalize out0_9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = O
  rfl

/-- The fourth array after the run. -/
theorem final10 (c : Dev nD) : (dats m 0 c).arrAt 10 cfg0.N = out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 10 t0_0 (by decide +kernel) _ fun j => ?_
  rw [after0_10, blk0, blk1, blk2, blk3, blk4, blk5, blk6]
  generalize out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = O
  rfl

/-- The fifth array after the run. -/
theorem final11 (c : Dev nD) : (dats m 0 c).arrAt 11 cfg0.N = out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 11 t0_0 (by decide +kernel) _ fun j => ?_
  rw [after0_11, blk0, blk1, blk2, blk3, blk4, blk5, blk6]
  generalize out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = O
  rfl

/-- The run: the five arrays, and the arguments unchanged. -/
theorem run : θ_run defs (onTc (τ := τ) (main (F := Ideal))) ⟨m, fun _ => 0, ρ⟩ fun r => ∀ c : Dev nD,
      r.2.mem ((c : Thread nD τ).loc main_v0_0) = out0_7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = out0_8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = out0_9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final7 m c), ((h c).1 8).trans (final8 m c), ((h c).1 9).trans (final9 m c), ((h c).1 10).trans (final10 m c), ((h c).1 11).trans (final11 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩) (run_main m ρ)

end Cert.BwdRefIdeal.Value

end
-- ==== Proof.BwdAlgebraic.lean ====
module

public import proofs.«01_k».proof.Proof.BwdArr
public import proofs.«01_k».proof.Proof.BwdRefOut
public import proofs.«01_k».proof.Proof.BwdRefArr
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The backward call's five results and its reference's, over the extended reals. -/

/-- The side conditions that the precondition's operations take. -/
instance Cert.Pre_in_range.facts : Cert.Pre_in_range.Facts where
  slices_S8x1024_S1x1024_0_0 := by decide
  bcast_S1x1024_S32000x1024_0_1 := by decide

namespace Cert.BwdAlgebraic

open Cert.BwdIdeal Cert.BwdIdeal.Value Cert.Quant

/-- Two arrays of rank two are equal if they agree at each pair of coordinates. -/
theorem ext_ix2 {A B : ℕ} {α : Type} (f g : (⟨2, ![A, B]⟩ : Shape).Idx → α) (h : ∀ (a : Fin A) (b : Fin B), f (ix2 a b) = g (ix2 a b)) : f = g := by
  funext i
  rw [show i = ix2 (i 0) (i 1) from funext fun a => by match a with | ⟨0, _⟩ => rfl | ⟨1, _⟩ => rfl]
  exact h _ _

/-- Two arrays of rank three are equal if they agree at each triple of coordinates. -/
theorem ext_ix3 {A B C : ℕ} {α : Type} (f g : (⟨3, ![A, B, C]⟩ : Shape).Idx → α) (h : ∀ (a : Fin A) (b : Fin B) (c : Fin C), f (ix3 a b c) = g (ix3 a b c)) : f = g := by
  funext i
  rw [show i = ix3 (i 0) (i 1) (i 2) from funext fun a => by match a with | ⟨0, _⟩ => rfl | ⟨1, _⟩ => rfl | ⟨2, _⟩ => rfl]
  exact h _ _ _

variable (m : (ℓ : Loc nD τ sig) → Buf (Elt Ideal) ℓ)

/-- The precondition, at an index: no logit is above its token's log-sum-exp. -/
theorem le_of_pre (h : Cert.Pre_BwdIdeal_in_range m) (c : Dev nD) (v : Fin 32000) (q : Fin 1024) :
    @LE.le EReal _ (m ((c : Thread nD τ).loc main_arg2) (ix2 v q)) (m ((c : Thread nD τ).loc main_arg3) (ix2 0 q)) := by
  have h1 := congrFun (h c) (ix2 v q)
  have h2 : Cert.Pre_in_range.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 v q)
      = BitVec.ofBool (decide (@LE.le EReal _ (m ((c : Thread nD τ).loc main_arg2) (ix2 v q)) (m ((c : Thread nD τ).loc main_arg3) (ix2 0 q)))) := by
    pointwise [Cert.Pre_in_range.fn]
  have h3 := h2.symm.trans h1
  by_contra hn
  rw [decide_eq_false hn] at h3
  exact absurd h3 (by decide)

section Args

variable (h : Cert.Pre_BwdIdeal_in_range m) (c : Dev nD)

include h

/-- The gradient of the head's weights is the reference's. -/
theorem eq7 : G7 m c = Cert.BwdRefIdeal.Gen.out0_7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_ix2 _ _ fun v d => (G7_apply m c v d).trans (Cert.BwdRefIdeal.Value.out7_apply _ _ _ _ _ _ _ (le_of_pre m h c) v d).symm

/-- The gradient's codes are the reference's. -/
theorem eq8 : G8 m c = Cert.BwdRefIdeal.Gen.out0_8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_ix3 _ _ fun a q n => (G8_apply m c a q n).trans (Cert.BwdRefIdeal.Value.out8_apply _ _ _ _ _ _ _ (le_of_pre m h c) a q n).symm

/-- The gradient's scales are the reference's. -/
theorem eq9 : G9 m c = Cert.BwdRefIdeal.Gen.out0_9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_ix3 _ _ fun a j q => (G9_apply m c a j q).trans (Cert.BwdRefIdeal.Value.out9_apply _ _ _ _ _ _ _ (le_of_pre m h c) a j q).symm

/-- The gradient of the hidden states is the reference's. -/
theorem eq10 : G10 m c = Cert.BwdRefIdeal.Gen.out0_10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_ix2 _ _ fun d q => (G10_apply m c d q).trans (Cert.BwdRefIdeal.Value.out10_apply _ _ _ _ _ _ _ (le_of_pre m h c) d q).symm

omit h in
/-- The loss of each token is the reference's. -/
theorem eq11 : G11 m c = Cert.BwdRefIdeal.Gen.out0_11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_ix2 _ _ fun r q => by
    obtain rfl : r = 0 := Subsingleton.elim _ _
    exact (G11_apply m c q).trans (Cert.BwdRefIdeal.Value.out11_apply _ _ _ _ _ _ _ q).symm

end Args

/-- The backward call's five results are the reference's, over the extended reals, where no logit is above its token's log-sum-exp. -/
theorem algebraic : Cert.algebraic_BwdIdeal_BwdRefIdeal_pre_in_range := by
  intro m ρ m' ρ' hpre hagree
  refine ⟨_, _, _, _, _, Cert.BwdIdeal.Value.run (F := Ideal) m ρ, ?_⟩
  refine (θ_run Cert.BwdRefIdeal.defs _ _).mono (fun _ h c => ⟨(h c).1.trans ?_, (h c).2.1.trans ?_, (h c).2.2.1.trans ?_, (h c).2.2.2.1.trans ?_, (h c).2.2.2.2.1.trans ?_, (h c).2.2.2.2.2⟩) (Cert.BwdRefIdeal.Value.run m' ρ')
  all_goals rw [(hagree c).1, (hagree c).2.1, (hagree c).2.2.1, (hagree c).2.2.2.1, (hagree c).2.2.2.2.1, (hagree c).2.2.2.2.2.1, (hagree c).2.2.2.2.2.2]
  · exact (eq7 m hpre c).symm
  · exact (eq8 m hpre c).symm
  · exact (eq9 m hpre c).symm
  · exact (eq10 m hpre c).symm
  · exact (eq11 m c).symm

end Cert.BwdAlgebraic

end
-- ==== Proof.BwdBits.lean ====
/- The frame of the backward call as written: the idealized program's frame, whose text is generic in the floats,
   read with the named constant standing for its own word. -/
module

public import proofs.«01_k».proof.Bwd
public import proofs.«01_k».proof.Proof.BwdFrame
public import proofs.«01_k».proof.Proof.Gen.Bwd

@[expose] public section

noncomputable section

namespace Cert.Bwd.Gen

open Idealize.ShloMosaic Idealize.ShloMosaic.TcCoe Idealize.SL.Sem

variable {F : FTy → Type} [FloatOps F]

/-- A named constant read as the word it was printed from. -/
abbrev namedWord : Named F where
  named := fun _ _ φ w => Scalar.ofBits φ w

/-- The kernel's function is the same text in the idealized program, but for the named constant. -/
theorem cc0_bwd_eq : @Cert.BwdIdeal.cc0_bwd F _ namedWord _ = @Cert.Bwd.cc0_bwd F _ _ := rfl

/-- So are the tables of bodies. -/
theorem defs₀_eq : @Cert.BwdIdeal.defs₀ F _ namedWord _ = @Cert.Bwd.defs₀ F _ _ :=
  congrArg Defs.onTc (funext fun b => match b with
    | 0 => funext fun ⟨_, _⟩ => rfl
    | ⟨_ + 1, h⟩ => absurd h (Nat.not_lt.2 (Nat.le_add_left _ _)))

variable (m : (ℓ : Loc nD τ sig) → Buf (Elt F) ℓ) (ρ : Dev nD → PrngReg)

/-- The backward call, as written, runs and terminates, leaves its arguments as they were, and every
    semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  have key : ∀ d : Defs nD τ sig (Elt F) Λ₀, @Cert.BwdIdeal.defs₀ F _ namedWord _ = d →
      θ_run (Pipeline.defs (pcfgs (F := F)) d) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := fun d hd => by
    subst hd
    exact @Cert.BwdIdeal.Gen.frame F _ namedWord m ρ
  key _ defs₀_eq

end Cert.Bwd.Gen

end
-- ==== Proof.DxValue.lean ====
module

public import proofs.«01_k».proof.Proof.Gen.DxIdeal.Value
public import proofs.«01_k».proof.Proof.Gen.DxRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

open Cert.DxRefIdeal (S1024x1280 S1280x1024)

section Value

variable (X : Vec Ideal S1024x1280 .bf16) (W : Vec Ideal S1x1280 .f32) (D : Vec Ideal S1280x1024 .f32)

/-- The reciprocal root mean square of token `t`. -/
def rr (t : Fin 1024) : EReal :=
  Ideal.rsqrt (Ideal.div (∑ k : Fin 1280, (X (ix2 t k) : EReal) * X (ix2 t k)) (Ideal.ofBits .f32 1151336448#32) + Ideal.ofBits .f32 897988541#32)

/-- The gradient of the input at token `t` and channel `d`. -/
def dxAt (t : Fin 1024) (d : Fin 1280) : EReal :=
  rr X t * ((D (ix2 d t) : EReal) * W (ix2 0 d) - (X (ix2 t d) : EReal) * rr X t
    * Ideal.div (∑ k : Fin 1280, (D (ix2 k t) : EReal) * W (ix2 0 k) * ((X (ix2 t k) : EReal) * rr X t)) (Ideal.ofBits .f32 1151336448#32))

/-- What token `t` adds to the gradient of the norm's weight `d`. -/
def dwAt (t : Fin 1024) (d : Fin 1280) : EReal := (D (ix2 d t) : EReal) * ((X (ix2 t d) : EReal) * rr X t)

end Value

/-- A block of the input's gradient, at an index, when its rows are those of the tokens `tok`. -/
theorem pay7_apply (X : Vec Ideal S1024x1280 .bf16) (W : Vec Ideal S1x1280 .f32) (D : Vec Ideal S1280x1024 .f32)
    (v0 : Vec Ideal S256x1280 .bf16) (v2 : Vec Ideal S1x1280 .f32) (v13 : Vec Ideal S1280x256 .f32) (t : Fin 1024) (p : Fin 256) (d : Fin 1280)
    (h0 : ∀ k, v0 (ix2 p k) = X (ix2 t k)) (h2 : ∀ k, v2 (ix2 0 k) = W (ix2 0 k)) (h13 : ∀ k, v13 (ix2 k p) = D (ix2 k t)) :
    k0_pay7 v0 v2 v13 (ix2 p d) = dxAt X W D t d := by
  pointwise [k0_pay7, k0_pay4, k0_pay3, k0_pay2, k0_pay1]
  simp only [h0, h2, h13]
  rfl

/-- What a block adds to the weights' gradient, at an index, when its rows are those of the tokens `tok`. -/
theorem pay6_apply (X : Vec Ideal S1024x1280 .bf16) (D : Vec Ideal S1280x1024 .f32)
    (v0 : Vec Ideal S256x1280 .bf16) (v13 : Vec Ideal S1280x256 .f32) (v18 : Vec Ideal S1x1280 .f32) (tok : Fin 256 → Fin 1024) (d : Fin 1280)
    (h0 : ∀ p k, v0 (ix2 p k) = X (ix2 (tok p) k)) (h13 : ∀ p k, v13 (ix2 k p) = D (ix2 k (tok p))) :
    k0_pay6 v0 v13 v18 (ix2 0 d) = (v18 (ix2 0 d) : EReal) + ∑ p : Fin 256, dwAt X D (tok p) d := by
  pointwise [k0_pay6, k0_pay4, k0_pay3, k0_pay2, k0_pay1]
  simp only [h0, h13]
  rfl

/-- The gradient of the norm's weights starts at zero. -/
theorem pay5_apply (d : Fin 1280) : k0_pay5 (F := Ideal) (ix2 0 d) = (0 : EReal) := by
  pointwise [k0_pay5]

section Step

variable (c : Dev nD) (i : grid0.Coords) (arg1 : Memref sig .tc .vmem S256x1280 .bf16) (harg1 : arg1.IsWhole) (arg2 : Memref sig .tc .vmem S1x1280 .f32) (harg2 : arg2.IsWhole) (arg3 : Memref sig .tc .vmem S1280x256 .f32) (harg3 : arg3.IsWhole) (arg4 : Memref sig .tc .vmem S256x1280 .bf16) (harg4 : arg4.IsWhole) (arg5 : Memref sig .tc .vmem S1x1280 .f32) (harg5 : arg5.IsWhole)
    (x0 : Vec Ideal S256x1280 .bf16) (x1 : Vec Ideal S1x1280 .f32) (x2 : Vec Ideal S1280x256 .f32) (xo4 : Vec Ideal S1x1280 .f32)

/-- The first point's block of the input's gradient. -/
theorem out_A_3 (h : cond0_0 i) : out0_A_3 (F := Ideal) c i arg1 harg1 arg2 harg2 arg3 harg3 arg4 harg4 arg5 harg5 h x0 x1 x2 = k0_pay7 x0 x1 x2 := by
  frame_out

/-- A later point's block of the input's gradient. -/
theorem out_B_3 (h : ¬cond0_0 i) : out0_B_3 (F := Ideal) c i arg1 harg1 arg2 harg2 arg3 harg3 arg4 harg4 arg5 harg5 h x0 x1 x2 xo4 = k0_pay7 x0 x1 x2 := by
  frame_out

/-- The weights' gradient after the first point. -/
theorem out_A_4 (h : cond0_0 i) : out0_A_4 (F := Ideal) c i arg1 harg1 arg2 harg2 arg3 harg3 arg4 harg4 arg5 harg5 h x0 x1 x2 = k0_pay6 x0 x2 (k0_pay5 (F := Ideal)) := by
  frame_out

/-- The weights' gradient after a later point. -/
theorem out_B_4 (h : ¬cond0_0 i) : out0_B_4 (F := Ideal) c i arg1 harg1 arg2 harg2 arg3 harg3 arg4 harg4 arg5 harg5 h x0 x1 x2 xo4 = k0_pay6 x0 x2 xo4 := by
  frame_out

end Step

variable (m : (ℓ : Loc nD τ sig) → Buf (Elt Ideal) ℓ) (ρ : Dev nD → PrngReg)

/-- The index maps at a grid point. -/
theorem idx : ∀ t : Fin cfg0.N, win0_0.index t = ![t.val, 0] ∧ win0_1.index t = ![0, 0] ∧ win0_2.index t = ![0, t.val] ∧ win0_3.index t = ![t.val, 0] ∧ win0_4.index t = ![0, 0] :=
  (by decide +kernel : ∀ t : Fin grid0.N, _)

/-- The token in row `p` of grid point `t`. -/
def tokOf (t : Fin cfg0.N) (p : Fin 256) : Fin 1024 := ⟨256 * t.val + p.val, by have := lt_of_lt_of_eq t.isLt N_0; omega⟩

/-- The input's block. -/
theorem blk_x (c : Dev nD) (t : Fin cfg0.N) (p : Fin 256) (k : Fin 1280) : iblk m c 0 t (ix2 p k) = m ((c : Thread nD τ).loc main_arg0) (ix2 (tokOf t p) k) := by
  unfold tokOf
  blk_ext [iblk, V, idx t]

/-- The weights' block. -/
theorem blk_w (c : Dev nD) (t : Fin cfg0.N) (k : Fin 1280) : iblk m c 1 t (ix2 0 k) = m ((c : Thread nD τ).loc main_arg1) (ix2 0 k) := by
  blk_ext [iblk, V, idx t]

/-- The block of the hidden gradient. -/
theorem blk_d (c : Dev nD) (t : Fin cfg0.N) (p : Fin 256) (k : Fin 1280) : iblk m c 2 t (ix2 k p) = m ((c : Thread nD τ).loc main_arg2) (ix2 k (tokOf t p)) := by
  unfold tokOf
  blk_ext [iblk, V, idx t]

/-- What a point stores of the input's gradient. -/
theorem dx_point (c : Dev nD) (t : Fin cfg0.N) (p : Fin 256) (d : Fin 1280) :
    (outsAt0 m c t.val t.isLt).1 (ix2 p d)
      = dxAt (m ((c : Thread nD τ).loc main_arg0)) (m ((c : Thread nD τ).loc main_arg1)) (m ((c : Thread nD τ).loc main_arg2)) (tokOf t p) d := by
  by_cases h : t.val % 4 = 0
  · rw [outsAt0_A m c t h]
    dsimp only
    rw [out_A_3]
    exact pay7_apply _ _ _ _ _ _ _ p d (blk_x m c t p) (blk_w m c t) (blk_d m c t p)
  · rw [outsAt0_B m c t h]
    dsimp only
    rw [out_B_3]
    exact pay7_apply _ _ _ _ _ _ _ p d (blk_x m c t p) (blk_w m c t) (blk_d m c t p)

/-- What the tokens of point `n` add to weight `d`. -/
def addAt (c : Dev nD) (d : Fin 1280) (n : ℕ) : EReal :=
  if h : n < cfg0.N then ∑ p : Fin 256, dwAt (m ((c : Thread nD τ).loc main_arg0)) (m ((c : Thread nD τ).loc main_arg2)) (tokOf ⟨n, h⟩ p) d else 0

theorem addAt_eq (c : Dev nD) (d : Fin 1280) {n : ℕ} (h : n < cfg0.N) :
    addAt m c d n = ∑ p : Fin 256, dwAt (m ((c : Thread nD τ).loc main_arg0)) (m ((c : Thread nD τ).loc main_arg2)) (tokOf ⟨n, h⟩ p) d := dif_pos h

/-- The weights' gradient after point `n`. -/
theorem dw_point (c : Dev nD) (d : Fin 1280) : ∀ (n : ℕ) (hn : n < cfg0.N), (outsAt0 m c n hn).2 (ix2 0 d) = ∑ s ∈ Finset.range (n + 1), addAt m c d s := by
  intro n
  induction n with
  | zero =>
    intro hn
    rw [outsAt0_A m c ⟨0, hn⟩ (Nat.zero_mod _)]
    dsimp only
    rw [out_A_4, Finset.sum_range_one]
    refine (pay6_apply _ _ _ _ _ (tokOf ⟨0, hn⟩) d (blk_x m c _) (blk_d m c _)).trans ?_
    rw [pay5_apply, zero_add]
    exact (addAt_eq m c d hn).symm
  | succ n ih =>
    intro hn
    have hN := lt_of_lt_of_eq hn N_0
    rw [outsAt0_B m c ⟨n + 1, hn⟩ (by show ¬((n + 1) % 4 = 0); omega)]
    dsimp only
    rw [out_B_4, Finset.sum_range_succ]
    refine (pay6_apply _ _ _ _ _ (tokOf ⟨n + 1, hn⟩) d (blk_x m c _) (blk_d m c _)).trans ?_
    exact congrArg₂ (fun x y : EReal => x + y) (ih _) (addAt_eq m c d hn).symm

/-- A sum over the tokens, point by point. -/
theorem sum_split (f : Fin 1024 → EReal) : (∑ t : Fin 1024, f t) = ∑ a : Fin 4, ∑ p : Fin 256, f (finProdFinEquiv (a, p) : Fin (4 * 256)) := by
  rw [← Fintype.sum_prod_type' (f := fun (a : Fin 4) (p : Fin 256) => f (finProdFinEquiv (a, p) : Fin (4 * 256)))]
  exact (Equiv.sum_comp (finProdFinEquiv : Fin 4 × Fin 256 ≃ Fin (4 * 256)) f).symm

/-- The points' sums are the sum over all tokens. -/
theorem sum_points (c : Dev nD) (d : Fin 1280) :
    (∑ s ∈ Finset.range (3 + 1), addAt m c d s) = ∑ t : Fin 1024, dwAt (m ((c : Thread nD τ).loc main_arg0)) (m ((c : Thread nD τ).loc main_arg2)) t d := by
  rw [sum_split, Finset.sum_range]
  refine Finset.sum_congr rfl fun a _ => ?_
  have ha : a.val < cfg0.N := lt_of_lt_of_eq a.isLt N_0.symm
  refine (addAt_eq m c d ha).trans (Finset.sum_congr rfl fun p _ => ?_)
  refine congrArg (fun t => dwAt (m ((c : Thread nD τ).loc main_arg0)) (m ((c : Thread nD τ).loc main_arg2)) t d) (Fin.ext ?_)
  show 256 * a.val + p.val = p.val + 256 * a.val
  omega

/-- A statement about every index of a matrix. -/
theorem all_ix2 {n0 n1 : ℕ} {P : (⟨2, ![n0, n1]⟩ : Shape).Idx → Prop} (h : ∀ a b, P (ix2 a b)) : ∀ y, P y := by
  intro y
  have hy : y = ix2 (y 0) (y 1) := funext fun a => by match a with | ⟨0, _⟩ => rfl | ⟨1, _⟩ => rfl
  rw [hy]
  exact h _ _

/-- The input's gradient after the run. -/
theorem final3 (c : Dev nD) (G : Vec Ideal S1024x1280 .bf16)
    (hG : ∀ t d, G (ix2 t d) = dxAt (m ((c : Thread nD τ).loc main_arg0)) (m ((c : Thread nD τ).loc main_arg1)) (m ((c : Thread nD τ).loc main_arg2)) t d) :
    (dats m 0 c).arrAt 3 cfg0.N = G := by
  refine (dats m 0 c).arrAt_eq_of_covers 3 G (by decide +kernel) fun t hf y => ?_
  revert y
  refine all_ix2 (n0 := 256) (n1 := 1280) fun p d => ?_
  blk_simp
  rw [after0_3]
  refine (dx_point m c t p d).trans ((hG _ _).symm.trans ?_)
  unfold tokOf
  blk_ext [iblk, V, idx t]

/-- The weights' gradient after the run. -/
theorem final4 (c : Dev nD) (G : Vec Ideal S1x1280 .f32)
    (hG : ∀ d, G (ix2 0 d) = ∑ t : Fin 1024, dwAt (m ((c : Thread nD τ).loc main_arg0)) (m ((c : Thread nD τ).loc main_arg2)) t d) :
    (dats m 0 c).arrAt 4 cfg0.N = G := by
  refine (dats m 0 c).arrAt_eq_of_covers 4 G (by decide +kernel) fun t hf y => ?_
  have h3 : t.val = 3 := by have := (flush0_4 t).1 hf; have := lt_of_lt_of_eq t.isLt N_0; omega
  revert y
  refine all_ix2 (n0 := 1) (n1 := 1280) fun p d => ?_
  obtain rfl : p = 0 := Subsingleton.elim _ _
  blk_simp
  rw [after0_4]
  have e := dw_point m c d t.val t.isLt
  refine e.trans (Eq.trans (congrArg (fun n => ∑ s ∈ Finset.range (n + 1), addAt m c d s) h3) ((sum_points m c d).trans ((hG d).symm.trans ?_)))
  blk_ext [iblk, V, idx t]

end Cert.DxIdeal.Value

end
-- ==== Proof.DxAlgebraic.lean ====
module

public import proofs.«01_k».proof.Proof.DxValue
public import proofs.«01_k».proof.Proof.Gen.DxRefIdeal.Run
public import proofs.«01_k».proof.Defs

@[expose] public section

noncomputable section

/-! The last backward call's results and its reference's, over the extended reals. -/

namespace Cert.DxRefIdeal.Value

open Cert.DxRefIdeal Cert.DxRefIdeal.Gen Idealize.ShloMosaic Idealize.ShloMosaic.TcCoe Idealize.SL.Sem
open Cert.DxIdeal.Value (dxAt dwAt rr)

variable (X : Vec Ideal S1024x1280 .bf16) (W : Vec Ideal S1x1280 .f32) (D : Vec Ideal S1280x1024 .f32)

/-- The reference's gradient of the input. -/
def refDx {F : FTy → Type} [FloatOps F] (X : FVec F S1024x1280 .bf16) (W : FVec F S1x1280 .f32) (D : FVec F S1280x1024 .f32) : FVec F S1024x1280 .bf16 :=
  truncf (F := F) .bf16 (mulf (F := F) (broadcastInDim (α := Elt F .f32) S1024x1280 ![0, 1] bcast_S1024x1_S1024x1280_0_1 (Host.rsqrt (F := F) (addf (F := F) (Host.divf (F := F) (broadcastInDim (α := Elt F .f32) S1024x1 ![0] bcast_S1024_S1024x1_0 (Host.reduceAdd (F := F) (mulf (F := F) (extf (F := F) .f32 X bitsLt_bf16_f32) (extf (F := F) .f32 X bitsLt_bf16_f32)) (constant (F := F) S_ .f32 0x00000000#32) reducesTo_S1024x1280_S1024_d1 h_S_)) (broadcastInDim (α := Elt F .f32) S1024x1 ![] bcast_S_S1024x1 (constant (F := F) S_ .f32 0x44A00000#32))) (broadcastInDim (α := Elt F .f32) S1024x1 ![] bcast_S_S1024x1 (constant (F := F) S_ .f32 0x358637BD#32))))) (subf (F := F) (mulf (F := F) (transpose (α := Elt F .f32) S1024x1280 [1, 0] D transposes_S1280x1024_S1024x1280_1_0) (broadcastInDim (α := Elt F .f32) S1024x1280 ![0, 1] bcast_S1x1280_S1024x1280_0_1 W)) (mulf (F := F) (mulf (F := F) (extf (F := F) .f32 X bitsLt_bf16_f32) (broadcastInDim (α := Elt F .f32) S1024x1280 ![0, 1] bcast_S1024x1_S1024x1280_0_1 (Host.rsqrt (F := F) (addf (F := F) (Host.divf (F := F) (broadcastInDim (α := Elt F .f32) S1024x1 ![0] bcast_S1024_S1024x1_0 (Host.reduceAdd (F := F) (mulf (F := F) (extf (F := F) .f32 X bitsLt_bf16_f32) (extf (F := F) .f32 X bitsLt_bf16_f32)) (constant (F := F) S_ .f32 0x00000000#32) reducesTo_S1024x1280_S1024_d1 h_S_)) (broadcastInDim (α := Elt F .f32) S1024x1 ![] bcast_S_S1024x1 (constant (F := F) S_ .f32 0x44A00000#32))) (broadcastInDim (α := Elt F .f32) S1024x1 ![] bcast_S_S1024x1 (constant (F := F) S_ .f32 0x358637BD#32)))))) (broadcastInDim (α := Elt F .f32) S1024x1280 ![0, 1] bcast_S1024x1_S1024x1280_0_1 (Host.divf (F := F) (broadcastInDim (α := Elt F .f32) S1024x1 ![0] bcast_S1024_S1024x1_0 (Host.reduceAdd (F := F) (mulf (F := F) (mulf (F := F) (transpose (α := Elt F .f32) S1024x1280 [1, 0] D transposes_S1280x1024_S1024x1280_1_0) (broadcastInDim (α := Elt F .f32) S1024x1280 ![0, 1] bcast_S1x1280_S1024x1280_0_1 W)) (mulf (F := F) (extf (F := F) .f32 X bitsLt_bf16_f32) (broadcastInDim (α := Elt F .f32) S1024x1280 ![0, 1] bcast_S1024x1_S1024x1280_0_1 (Host.rsqrt (F := F) (addf (F := F) (Host.divf (F := F) (broadcastInDim (α := Elt F .f32) S1024x1 ![0] bcast_S1024_S1024x1_0 (Host.reduceAdd (F := F) (mulf (F := F) (extf (F := F) .f32 X bitsLt_bf16_f32) (extf (F := F) .f32 X bitsLt_bf16_f32)) (constant (F := F) S_ .f32 0x00000000#32) reducesTo_S1024x1280_S1024_d1 h_S_)) (broadcastInDim (α := Elt F .f32) S1024x1 ![] bcast_S_S1024x1 (constant (F := F) S_ .f32 0x44A00000#32))) (broadcastInDim (α := Elt F .f32) S1024x1 ![] bcast_S_S1024x1 (constant (F := F) S_ .f32 0x358637BD#32))))))) (constant (F := F) S_ .f32 0x00000000#32) reducesTo_S1024x1280_S1024_d1 h_S_)) (broadcastInDim (α := Elt F .f32) S1024x1 ![] bcast_S_S1024x1 (constant (F := F) S_ .f32 0x44A00000#32))))))) bitsLt_bf16_f32

/-- The reference's gradient of the norm's weights. -/
def refDw {F : FTy → Type} [FloatOps F] (X : FVec F S1024x1280 .bf16) (D : FVec F S1280x1024 .f32) : FVec F S1x1280 .f32 :=
  broadcastInDim (α := Elt F .f32) S1x1280 ![1] bcast_S1280_S1x1280_1 (Host.reduceAdd (F := F) (mulf (F := F) (transpose (α := Elt F .f32) S1024x1280 [1, 0] D transposes_S1280x1024_S1024x1280_1_0) (mulf (F := F) (extf (F := F) .f32 X bitsLt_bf16_f32) (broadcastInDim (α := Elt F .f32) S1024x1280 ![0, 1] bcast_S1024x1_S1024x1280_0_1 (Host.rsqrt (F := F) (addf (F := F) (Host.divf (F := F) (broadcastInDim (α := Elt F .f32) S1024x1 ![0] bcast_S1024_S1024x1_0 (Host.reduceAdd (F := F) (mulf (F := F) (extf (F := F) .f32 X bitsLt_bf16_f32) (extf (F := F) .f32 X bitsLt_bf16_f32)) (constant (F := F) S_ .f32 0x00000000#32) reducesTo_S1024x1280_S1024_d1 h_S_)) (broadcastInDim (α := Elt F .f32) S1024x1 ![] bcast_S_S1024x1 (constant (F := F) S_ .f32 0x44A00000#32))) (broadcastInDim (α := Elt F .f32) S1024x1 ![] bcast_S_S1024x1 (constant (F := F) S_ .f32 0x358637BD#32))))))) (constant (F := F) S_ .f32 0x00000000#32) reducesTo_S1024x1280_S1280_d0 h_S_)

/-- The reference's gradient of the input, at an index. -/
theorem refDx_apply (t : Fin 1024) (d : Fin 1280) : refDx (F := Ideal) X W D (ix2 t d) = dxAt X W D t d := by
  pointwise [refDx]
  rfl

/-- The reference's gradient of the norm's weights, at an index. -/
theorem refDw_apply (d : Fin 1280) : refDw (F := Ideal) X D (ix2 0 d) = ∑ t : Fin 1024, dwAt X D t d := by
  pointwise [refDw]
  rfl

end Cert.DxRefIdeal.Value

namespace Cert.DxAlgebraic

open Idealize.ShloMosaic Idealize.ShloMosaic.TcCoe Idealize.SL.Sem

/-- The last backward call's two results are the reference's, over the extended reals. -/
theorem algebraic : Cert.algebraic_DxIdeal_DxRefIdeal := by
  intro m ρ m' ρ' _ hagree
  refine ⟨_, _, Cert.DxIdeal.Value.run_blocks (F := Ideal) m ρ, ?_⟩
  refine (θ_run Cert.DxRefIdeal.defs _ _).mono (fun _ h c => ⟨(h c).1.trans ?_, (h c).2.1.trans ?_, (h c).2.2⟩) (Cert.DxRefIdeal.Value.run (F := Ideal) m' ρ')
  · rw [(hagree c).1, (hagree c).2.1, (hagree c).2.2]
    exact (Cert.DxIdeal.Value.final3 m c (Cert.DxRefIdeal.Value.refDx (F := Ideal) (m ((c : Thread Cert.DxIdeal.nD Cert.DxIdeal.τ).loc Cert.DxIdeal.main_arg0)) (m ((c : Thread Cert.DxIdeal.nD Cert.DxIdeal.τ).loc Cert.DxIdeal.main_arg1)) (m ((c : Thread Cert.DxIdeal.nD Cert.DxIdeal.τ).loc Cert.DxIdeal.main_arg2))) (Cert.DxRefIdeal.Value.refDx_apply _ _ _)).symm
  · rw [(hagree c).1, (hagree c).2.2]
    exact (Cert.DxIdeal.Value.final4 m c (Cert.DxRefIdeal.Value.refDw (F := Ideal) (m ((c : Thread Cert.DxIdeal.nD Cert.DxIdeal.τ).loc Cert.DxIdeal.main_arg0)) (m ((c : Thread Cert.DxIdeal.nD Cert.DxIdeal.τ).loc Cert.DxIdeal.main_arg2))) (Cert.DxRefIdeal.Value.refDw_apply _ _)).symm

end Cert.DxAlgebraic

end
-- ==== Proof.lean ====
module

public import proofs.«01_k».proof.Defs
public import proofs.«01_k».proof.Proof.FwdAlgebraic
public import proofs.«01_k».proof.Proof.BwdAlgebraic
public import proofs.«01_k».proof.Proof.BwdFrame
public import proofs.«01_k».proof.Proof.BwdBits
public import proofs.«01_k».proof.Proof.DxAlgebraic
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Skeleton
public import proofs.«01_k».proof.Proof.Gen.NormRefIdeal.Launch
public import proofs.«01_k».proof.Proof.Gen.NormRefIdeal.Points
public import proofs.«01_k».proof.Proof.Gen.NormRefIdeal.Frame
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Skeleton
public import proofs.«01_k».proof.Proof.Gen.FwdRefIdeal.Launch
public import proofs.«01_k».proof.Proof.Gen.FwdRefIdeal.Points
public import proofs.«01_k».proof.Proof.Gen.FwdRefIdeal.Frame
public import proofs.«01_k».proof.Proof.Gen.FwdRefIdeal.Value
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdRefIdeal
public import proofs.«01_k».proof.Proof.Gen.BwdRefIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import Idealize.ShloMosaic.Lib.Quiescent
public import Idealize.ShloMosaic.Adequacy
public import Idealize.ShloMosaic.Init

@[expose] public section

noncomputable section

namespace Cert.Proof

open Idealize.ShloMosaic Idealize.SL.Sem Cert.Norm

theorem claim : Cert.Claim := ⟨Cert.Norm.Gen.facts, Cert.NormIdeal.Gen.facts, Cert.NormRefIdeal.Gen.facts, Cert.Fwd.Gen.facts, Cert.FwdIdeal.Gen.facts, Cert.FwdRefIdeal.Gen.facts, Cert.Bwd.Gen.facts, Cert.BwdIdeal.Gen.facts, Cert.BwdRefIdeal.Gen.facts, Cert.Dx.Gen.facts, Cert.DxIdeal.Gen.facts, Cert.DxRefIdeal.Gen.facts, Cert.Pre_in_range.facts,
  fun m ρ _ => Cert.Norm.Gen.frame m ρ, fun m ρ _ => Cert.NormIdeal.Gen.frame m ρ,
  fun m ρ _ => Cert.NormRefIdeal.Gen.frame m ρ,
  fun m ρ _ => Cert.Fwd.Gen.frame m ρ, fun m ρ _ => Cert.FwdIdeal.Gen.frame m ρ,
  fun m ρ _ => Cert.FwdRefIdeal.Gen.frame m ρ,
  fun m ρ _ => Cert.Bwd.Gen.frame m ρ, fun m ρ _ => Cert.BwdIdeal.Gen.frame m ρ,
  fun m ρ _ => Cert.BwdIdeal.Gen.frame m ρ, fun m ρ _ => Cert.BwdRefIdeal.Gen.frame m ρ,
  fun m ρ _ => Cert.BwdRefIdeal.Gen.frame m ρ,
  fun m ρ _ => Cert.Dx.Gen.frame m ρ, fun m ρ _ => Cert.DxIdeal.Gen.frame m ρ,
  fun m ρ _ => (θ_run Cert.DxRefIdeal.defs _ _).mono (fun r h => ⟨fun c => (h c).2.2,
    sem_eq_zero_of_no_sems (by decide) r.2⟩) (Cert.DxRefIdeal.Value.run (F := Ideal) m ρ),
  trivial,
  IdealRules.named_const.statement Cert.FwdIdeal.κ "log2e" .f32 0x3FB8AA3B#32 (((Real.log 2)⁻¹ : ℝ) : EReal) rfl,
  Cert.FwdAlgebraic.algebraic,
  IdealRules.named_const.statement Cert.BwdIdeal.κ "ln2" .f32 0x3F317218#32 ((Real.log 2 : ℝ) : EReal) rfl,
  Cert.BwdAlgebraic.algebraic,
  trivial, Cert.DxAlgebraic.algebraic⟩

end Cert.Proof

end
